-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 8192]⟩ ⟨2, ![1024, 32768]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x1024 .bf16) (main_arg1 : FVec F S1024x8192 .bf16) (main_arg2 : IVec S512 32) : IVec S_ 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .bf16 := Host.absf main_arg1
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_c_4 : IVec S_ 32 := constantI S_ 32 32768#32
  let main_v13 : IVec S512 32 := broadcastInDim S512 ![] bcast_S_S512 main_c_4
  let main_v14 : IVec S512 1 := cmpi .slt main_arg2 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Pre_in_range_ReferenceIdeal.lean ====
abbrev S512x1024 : Shape := ⟨2, ![512, 1024]⟩
abbrev S1024x32768 : Shape := ⟨2, ![1024, 32768]⟩
abbrev S512 : Shape := ⟨1, ![512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x32768 : S_.BroadcastsInDim S1024x32768 (![] : Fin 0 → Fin S1024x32768.rank)
  reducesTo_S1024x32768_S_d0_1 : S1024x32768.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x1024 .bf16) (main_arg1 : FVec F S1024x32768 .bf16) (main_arg2 : IVec S512 32) : IVec S_ 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x32768 .bf16 := Host.absf main_arg1
  let main_cst_0 : FVec F S_ .bf16 := constant S_ .bf16 0x7F80#16
  let main_v5 : FVec F S1024x32768 .bf16 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_c_4 : IVec S_ 32 := constantI S_ 32 32768#32
  let main_v13 : IVec S512 32 := broadcastInDim S512 ![] bcast_S_S512 main_c_4
  let main_v14 : IVec S512 1 := cmpi .slt main_arg2 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Kernel.lean ====
abbrev S512x1024 : Shape := ⟨2, ![512, 1024]⟩
abbrev S1024x8192 : Shape := ⟨2, ![1024, 8192]⟩
abbrev S512 : Shape := ⟨1, ![512]⟩
abbrev S1024x2048 : Shape := ⟨2, ![1024, 2048]⟩
abbrev S8x512 : Shape := ⟨2, ![8, 512]⟩
abbrev S3x8x512 : Shape := ⟨3, ![3, 8, 512]⟩
abbrev S3 : Shape := ⟨1, ![3]⟩
abbrev S_ : Shape := ⟨0, ![]⟩
abbrev S512x2048 : Shape := ⟨2, ![512, 2048]⟩
abbrev S512x1 : Shape := ⟨2, ![512, 1]⟩
abbrev S1x512 : Shape := ⟨2, ![1, 512]⟩
abbrev S1 : Shape := ⟨1, ![1]⟩
abbrev S1x8x512 : Shape := ⟨3, ![1, 8, 512]⟩
abbrev S1x1x512 : Shape := ⟨3, ![1, 1, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .bf16⟩
  | .hbm, ⟨1, _⟩ => ⟨S1024x8192, .bf16⟩
  | .hbm, ⟨2, _⟩ => ⟨S512, .i32⟩
  | .hbm, ⟨3, _⟩ => ⟨S512, .f32⟩
  | .local _ .vmem, ⟨0, _⟩ => ⟨S512x1024, .bf16⟩
  | .local _ .vmem, ⟨1, _⟩ => ⟨S1024x2048, .bf16⟩
  | .local _ .vmem, ⟨2, _⟩ => ⟨S1024x2048, .bf16⟩
  | .local _ .vmem, ⟨3, _⟩ => ⟨S512, .i32⟩
  | .local _ .vmem, ⟨4, _⟩ => ⟨S512, .f32⟩
  | .local _ .vmem, ⟨5, _⟩ => ⟨S8x512, .f32⟩
  | .local _ .vmem, ⟨6, _⟩ => ⟨S3x8x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v38 : BitVec 32 := Scalar.addi v2 c1_i32_13
  let c4_i32_14 : BitVec 32 := 4#32
  let v39 : BitVec 32 := Scalar.remsi v38 c4_i32_14
  let c1_i32_16 : BitVec 32 := 1#32
  let v40 : BitVec 32 := Scalar.muli v39 c1_i32_16
  let v41 : BitVec 32 := Scalar.addi c0_i32_17 v40
  v41.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v42 : BitVec 32 := Scalar.addi v2 c2_i32
  let c4_i32_18 : BitVec 32 := 4#32
  let v43 : BitVec 32 := Scalar.remsi v42 c4_i32_18
  let c1_i32_20 : BitVec 32 := 1#32
  let v44 : BitVec 32 := Scalar.muli v43 c1_i32_20
  let v45 : BitVec 32 := Scalar.addi c0_i32_21 v44
  v45.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_22 : BitVec 32 := 3#32
  let v46 : BitVec 32 := Scalar.addi v2 c3_i32_22
  let c4_i32_23 : BitVec 32 := 4#32
  let v47 : BitVec 32 := Scalar.remsi v46 c4_i32_23
  let c1_i32_25 : BitVec 32 := 1#32
  let v48 : BitVec 32 := Scalar.muli v47 c1_i32_25
  let v49 : BitVec 32 := Scalar.addi c0_i32_26 v48
  v49.toNat
def k0_cond4 (i : grid0.Coords) : BitVec 1 :=
  let arg0 : BitVec 32 := BitVec.ofNat 32 (i 0).val
  let c3_i32 : BitVec 32 := 3#32
  let v35 : BitVec 1 := Scalar.cmpi .eq arg0 c3_i32
  let v36 : BitVec 32 := Scalar.extui v35
  let c0_i32_12 : BitVec 32 := 0#32
  let v37 : BitVec 1 := Scalar.cmpi .ne v36 c0_i32_12
  v37

def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v38 : BitVec 32 := Scalar.addi v2 c1_i32_14
  let c4_i32_15 : BitVec 32 := 4#32
  let v39 : BitVec 32 := Scalar.remsi v38 c4_i32_15
  let c1_i32_19 : BitVec 32 := 1#32
  let v40 : BitVec 32 := Scalar.muli v39 c1_i32_19
  let v41 : BitVec 32 := Scalar.addi c0_i32_20 v40
  v41.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v48 : BitVec 32 := Scalar.addi v2 c2_i32
  let c4_i32_23 : BitVec 32 := 4#32
  let v49 : BitVec 32 := Scalar.remsi v48 c4_i32_23
  let c1_i32_27 : BitVec 32 := 1#32
  let v50 : BitVec 32 := Scalar.muli v49 c1_i32_27
  let v51 : BitVec 32 := Scalar.addi c0_i32_28 v50
  v51.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_31 : BitVec 32 := 3#32
  let v58 : BitVec 32 := Scalar.addi v2 c3_i32_31
  let c4_i32_32 : BitVec 32 := 4#32
  let v59 : BitVec 32 := Scalar.remsi v58 c4_i32_32
  let c1_i32_36 : BitVec 32 := 1#32
  let v60 : BitVec 32 := Scalar.muli v59 c1_i32_36
  let v61 : BitVec 32 := Scalar.addi c0_i32_37 v60
  v61.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S512x1024 : Shape := ⟨2, ![512, 1024]⟩
abbrev S1024x32768 : Shape := ⟨2, ![1024, 32768]⟩
abbrev S512 : Shape := ⟨1, ![512]⟩
abbrev S512x32768 : Shape := ⟨2, ![512, 32768]⟩
abbrev S_ : Shape := ⟨0, ![]⟩
abbrev S512x1 : Shape := ⟨2, ![512, 1]⟩
abbrev S512x2 : Shape := ⟨2, ![512, 2]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x32768, .bf16⟩
  | .hbm, ⟨2, _⟩ => ⟨S512, .i32⟩
  | .hbm, ⟨3, _⟩ => ⟨S512x32768, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x32768, .f32⟩
  | .hbm, ⟨8, _⟩ => ⟨S512x32768, .f32⟩
  | .hbm, ⟨9, _⟩ => ⟨S512x32768, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1, .i32⟩
  | .hbm, ⟨33, _⟩ => ⟨S512x2, .i32⟩
  | .hbm, ⟨34, _⟩ => ⟨S512, .f32⟩
  | .hbm, ⟨35, _⟩ => ⟨S512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Protocol.lean ====
/-
The exchange protocol of the distributed cross entropy kernel, as printed for the ideal instance, and the contents
it moves.

Four devices. Every device keeps, in rows 0 and 1 of its (8, 512) statistics buffer, the running sum of `exp` of its
logits and the running label logit; at the last grid point it copies that buffer into one slot of each of the three
other devices' (3, 8, 512) gather buffer. Before it copies it waits on the runtime's barrier semaphore for the three
others, each of which signalled at grid point 0.

Seven semaphore cells per device, all of one round: the barrier cell, with three duties of one unit, duty `k` paid by
the device `k + 1` places ahead, which hands over slot `k` of its own gather buffer; three send cells, whose payload is
the lent share of the statistics buffer; three receive cells, whose payload is slot `k` holding the two rows of the
device `k + 1` places behind.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.FrameBody
public import Idealize.ShloMosaic.Lib.ValueLayout
public import Idealize.ShloMosaic.Lib.VecWindow
public import Idealize.ShloMosaic.Lib.Ring
public import Idealize.ShloMosaic.Lib.Transfers
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.Transfers (shareTok shareDrop)

variable {F : FTy → Type} [FloatOps F]

/-! ## The resource algebra: the pipeline library's copy and the exchange's, whose duties are `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around the mesh -/

set_option backward.proofsInPublic true in
/-- The device `j + 1` places ahead. -/
def peer (j : Fin 3) (c : Dev nD) : Dev nD := ⟨(c.val + j.val + 1) % 4, Nat.mod_lt _ (by decide)⟩

/-- The opposite offset: `j + 1` ahead and `opp j + 1` ahead make a whole turn. -/
def opp (j : Fin 3) : Fin 3 := ⟨2 - j.val, by omega⟩

theorem peer_opp (j : Fin 3) (c : Dev nD) : peer (opp j) (peer j c) = c := by revert j c; decide
theorem opp_peer (j : Fin 3) (c : Dev nD) : peer j (peer (opp j) c) = c := by revert j c; decide
theorem opp_opp (j : Fin 3) : opp (opp j) = j := by revert j; decide

theorem dev1_eq (i : grid0.Coords) (c : Dev nD) (h) : (⟨k0_dev1 c, k0_dev1_lt i c h⟩ : Dev nD) = peer 0 c := Fin.ext (k0_dev1_eq c)
theorem dev2_eq (i : grid0.Coords) (c : Dev nD) (h) : (⟨k0_dev2 c, k0_dev2_lt i c h⟩ : Dev nD) = peer 1 c := Fin.ext (k0_dev2_eq c)
theorem dev3_eq (i : grid0.Coords) (c : Dev nD) (h) : (⟨k0_dev3 c, k0_dev3_lt i c h⟩ : Dev nD) = peer 2 c := Fin.ext (k0_dev3_eq c)
theorem dev4_eq (i : grid0.Coords) (c : Dev nD) (h) : (⟨k0_dev4 c, k0_dev4_lt i c h⟩ : Dev nD) = peer 0 c := Fin.ext (k0_dev4_eq c)
theorem dev5_eq (i : grid0.Coords) (c : Dev nD) (h) : (⟨k0_dev5 c, k0_dev5_lt i c h⟩ : Dev nD) = peer 1 c := Fin.ext (k0_dev5_eq c)
theorem dev6_eq (i : grid0.Coords) (c : Dev nD) (h) : (⟨k0_dev6 c, k0_dev6_lt i c h⟩ : Dev nD) = peer 2 c := Fin.ext (k0_dev6_eq c)

/-- The devices permuted by going `j + 1` places ahead. -/
def around (j : Fin 3) : Dev nD ≃ Dev nD := ⟨peer j, peer (opp j), peer_opp j, opp_peer j⟩

/-! ## The memrefs and cells -/

/-- The statistics buffer and the gather buffer. -/
abbrev statM : Memref sig .tc .vmem S8x512 .f32 := Memref.whole cc0_scratch0
abbrev gatM : Memref sig .tc .vmem S3x8x512 .f32 := Memref.whole cc0_scratch1

theorem slot_inb (k : Fin 3) : ∀ a, (![k.val, 0, 0] : Fin 3 → ℕ) a + S1x8x512.size a ≤ S3x8x512.size a := by
  revert k; decide

/-- Slot `k` of the gather buffer. -/
def slotM (k : Fin 3) : Memref sig .tc .vmem S8x512 .f32 :=
  (gatM.slice (Rect.unit (s := S3x8x512) ![k.val, 0, 0] S1x8x512.size (slot_inb k)) (fun _ => rfl)).squeeze S8x512 squeezes_S1x8x512_S8x512

/-- The barrier semaphore (the runtime's), the three send and the three receive semaphores. -/
abbrev barS : Sem sig := (SemArray.scalar (sig.barrier 0 rfl) : Sems sig S_).sem
def sendS (k : Fin 3) : DmaSem sig := match k with | 0 => 5 | 1 => 6 | 2 => 7
def recvS (k : Fin 3) : DmaSem sig := match k with | 0 => 8 | 1 => 9 | 2 => 10

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The kernel's own (scoped) semaphores: the sends, then the receives; -/
abbrev osem : Fin 6 → SemLoc sig := fun
  | 0 => .dma (sendS 0) | 1 => .dma (sendS 1) | 2 => .dma (sendS 2) | 3 => .dma (recvS 0) | 4 => .dma (recvS 1) | 5 => .dma (recvS 2)
/-- all seven of the exchange's: the barrier, the sends, the receives. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

/-- The place of a send or receive cell among the seven. -/
def sIx (k : Fin 3) : Fin 7 := match k with | 0 => 1 | 1 => 2 | 2 => 3
def rIx (k : Fin 3) : Fin 7 := match k with | 0 => 4 | 1 => 5 | 2 => 6
theorem kcell_sIx (k : Fin 3) (c : Dev nD) : kcell (c, sIx k) = sendCell k c := by fin_cases k <;> rfl
theorem kcell_rIx (k : Fin 3) (c : Dev nD) : kcell (c, rIx k) = recvCell k c := by fin_cases k <;> rfl

/-- Which copy a DMA semaphore belongs to, and on which side (`true`: the receiving one). -/
def xcls (q : DmaSem sig) : Option (Bool × Fin 3) :=
  if q = sendS 0 then some (false, 0) else if q = sendS 1 then some (false, 1) else if q = sendS 2 then some (false, 2)
  else if q = recvS 0 then some (true, 0) else if q = recvS 1 then some (true, 1) else if q = recvS 2 then some (true, 2)
  else none
theorem xcls_send (k : Fin 3) : xcls (sendS k) = some (false, k) := by revert k; decide
theorem xcls_recv (k : Fin 3) : xcls (recvS k) = some (true, k) := by revert k; decide

/-- The credit of one copy of an (8, 512) block. -/
abbrev N : ℕ := (statM : Memref sig .tc .vmem S8x512 .f32).view.dmaCredit
theorem N_pos : 0 < N := View.dmaCredit_pos _ (by decide)

/-! ## Contents -/

/-- Grid point `n`. -/
def tt (n : ℕ) : Fin cfg0.N := ⟨n % 4, by show n % 4 < grid0.N; rw [N_0]; exact Nat.mod_lt _ (by decide)⟩

/-- Device `c`'s three input blocks at a grid point. -/
abbrev xb (c : Dev nD) (t : Fin cfg0.N) : Vec F S512x1024 .bf16 := iblk m c 0 t
abbrev wb (c : Dev nD) (t : Fin cfg0.N) : Vec F S1024x2048 .bf16 := iblk m c 1 t
abbrev lb (c : Dev nD) (t : Fin cfg0.N) : Vec F S512 .i32 := iblk m c 2 t

/-- Row 0 of device `c`'s statistics after grid point `n`: the sum of `exp` of its logits so far. -/
def accS (c : Dev nD) : ℕ → Vec F S1x512 .f32
  | 0 => k0_pay7 (xb m c (tt 0)) (wb m c (tt 0))
  | n + 1 => k0_pay9 (xb m c (tt (n + 1))) (wb m c (tt (n + 1))) (accS c n)
/-- Row 1 after grid point `n`: the label's logit, if met so far. -/
def accL (c : Dev nD) : ℕ → Vec F S1x512 .f32
  | 0 => k0_pay8 (grid0.coords (tt 0)) c (xb m c (tt 0)) (wb m c (tt 0)) (lb m c (tt 0))
  | n + 1 => k0_pay10 (grid0.coords (tt (n + 1))) c (xb m c (tt (n + 1))) (wb m c (tt (n + 1))) (lb m c (tt (n + 1))) (accL c n)

/-- A row with a leading unit axis, as a load from the gather buffer gives it. -/
def lift3 (v : Vec F S1x512 .f32) : Vec F S1x1x512 .f32 := fun j => v (ix2 (0 : Fin 1) (j 2))

/-- The device that fills slot `k` of device `c`: the one `k + 1` places behind. -/
abbrev src (k : Fin 3) (c : Dev nD) : Dev nD := peer (opp k) c

/-- The kernel's result on device `c`: the logarithm of the summed exponentials less the summed label logits. -/
def outAt (c : Dev nD) : Vec F S512 .f32 :=
  k0_pay1 (k0_pay2 (accL m c 3) (lift3 (accL m (src 0 c) 3)) (lift3 (accL m (src 1 c) 3)))
    (k0_pay3 (accS m c 3) (lift3 (accS m (src 0 c) 3)) (lift3 (accS m (src 1 c) 3)) (lift3 (accS m (src 2 c) 3)))
    (lift3 (accL m (src 2 c) 3))

abbrev row0 : Rect S8x512 := Rect.unit (s := S8x512) ![0, 0] S1x512.size inb_S8x512_S1x512_0_0
abbrev row1 : Rect S8x512 := Rect.unit (s := S8x512) ![1, 0] S1x512.size inb_S8x512_S1x512_1_0

/-- Rows 0 and 1 of the statistics buffer hold `S` and `Lb`. -/
def Rows (S Lb : Vec F S1x512 .f32) (f : statM.view.ty.Contents (Elt F)) : Prop :=
  statM.view.readAt (Elt F) row0.toLoadRect f = S ∧ statM.view.readAt (Elt F) row1.toLoadRect f = Lb

/-- Rows 0 and 1 of slot `k` hold `S` and `Lb`. -/
def SlotRows (k : Fin 3) (S Lb : Vec F S1x512 .f32) (f : (slotM k).view.ty.Contents (Elt F)) : Prop :=
  (slotM k).view.readAt (Elt F) row0.toLoadRect f = S ∧ (slotM k).view.readAt (Elt F) row1.toLoadRect f = Lb

/-- The statistics buffer held at share `q`, and slot `k` of the gather buffer held outright. -/
def statPts (c : Dev nD) (q : PosShare TreeShare) (f : Buf (Elt F) (statM.view.loc (c : Thread nD τ))) : sProp 𝕄 :=
  statM.view.loc (c : Thread nD τ) ↦[statM.view.set]{q} f
def slotPts (k : Fin 3) (c : Dev nD) (f : Buf (Elt F) ((slotM k).view.loc (c : Thread nD τ))) : sProp 𝕄 :=
  (slotM k).view.loc (c : Thread nD τ) ↦[(slotM k).view.set]{fullShare} f

omit [FloatOps F] in
instance statPts_storable (c : Dev nD) (q) (f) : BI.Storable (upEmb : UEmb _ 𝕄) (statPts (F := F) c q f) := by unfold statPts; infer_instance
omit [FloatOps F] in
instance slotPts_storable (k : Fin 3) (c : Dev nD) (f) : BI.Storable (upEmb : UEmb _ 𝕄) (slotPts (F := F) k c f) := by unfold slotPts; infer_instance

/-- The share of the statistics buffer lent to copy `k`; what is kept meanwhile. -/
abbrev lent (k : Fin 3) : PosShare TreeShare := shareTok fullShare 3 k
abbrev kept : PosShare TreeShare := shareDrop fullShare 3

/-! ## The schedule -/

/-- What duty `k` of `c`'s barrier cell hands `c`: slot `k` of the gather buffer it will fill, and that the receive cell
    there is at its round. -/
def barPay (k : Fin 3) (c : Dev nD) : sProp 𝕄 := iprop((∃ f, slotPts k (peer k c) f) ∗ reached ER (recvCell k (peer k c)) 0)
def sendPay (k : Fin 3) (c : Dev nD) : sProp 𝕄 := iprop(∃ f, statPts c (lent k) f)
def recvPay (k : Fin 3) (c : Dev nD) : sProp 𝕄 :=
  iprop(∃ f, ⌜SlotRows k (accS m (src k c) 3) (accL m (src k c) 3) f⌝ ∗ slotPts k c f)

abbrev IsBar (g : GSem nD τ sig) : Prop := g.1.2 = .tc ∧ g.2 = .reg barS
abbrev IsXfer (g : GSem nD τ sig) : Prop := g.1.2 = .tc ∧ ∃ k : Fin 3, g.2 = .dma (sendS k) ∨ g.2 = .dma (recvS k)

/-- What a duty of a DMA cell hands over. -/
def dmaPay (q : DmaSem sig) (c : Dev nD) : sProp 𝕄 :=
  match xcls q with
  | some (false, k) => sendPay k c
  | some (true, k) => recvPay m k c
  | none => iprop(emp)

omit [FloatOps F] in
instance barPay_storable (k : Fin 3) (c : Dev nD) : BI.Storable (upEmb : UEmb _ 𝕄) (barPay (F := F) k c) := by unfold barPay; infer_instance
omit [FloatOps F] in
instance sendPay_storable (k : Fin 3) (c : Dev nD) : BI.Storable (upEmb : UEmb _ 𝕄) (sendPay (F := F) k c) := by unfold sendPay; infer_instance
instance recvPay_storable (k : Fin 3) (c : Dev nD) : BI.Storable (upEmb : UEmb _ 𝕄) (recvPay (F := F) m k c) := by unfold recvPay; infer_instance
instance dmaPay_storable (q : DmaSem sig) (c : Dev nD) : BI.Storable (upEmb : UEmb _ 𝕄) (dmaPay (F := F) m q c) := by
  unfold dmaPay; split <;> infer_instance

/-- One round, round 0. -/
def exRd : Rounds.Schedule (GSem nD τ sig) (Fin 3) 𝕄 where
  duties g r := if r = 0 ∧ IsBar g then Finset.univ else if r = 0 ∧ IsXfer g then {0} else ∅
  unitless _ := False
  amount g _ _ := match g.2 with | .reg _ => 1 | .dma _ => N
  payload g _ d := match g.2 with | .reg _ => barPay d g.1.1 | .dma q => dmaPay m q g.1.1
  amount_pos g _ _ _ := by
    rcases g with ⟨t, s | s⟩
    · exact Nat.one_pos
    · exact N_pos

instance exRd_payload_storable (g : GSem nD τ sig) (r : ℕ) (d : Fin 3) :
    BI.Storable (upEmb : UEmb _ 𝕄) ((exRd (F := F) m).payload g r d) := by
  rcases g with ⟨t, s | s⟩
  · exact barPay_storable d t.1
  · exact dmaPay_storable m s t.1

section Sched
variable (c : Dev nD) (k : Fin 3)

theorem not_bar_send : ¬ IsBar (sendCell k c) := fun h => by cases h.2
theorem not_bar_recv : ¬ IsBar (recvCell k c) := fun h => by cases h.2

theorem duties_bar : (exRd (F := F) m).duties (barCell c) 0 = Finset.univ := by dsimp only [exRd]; exact if_pos ⟨rfl, rfl, rfl⟩
theorem duties_send : (exRd (F := F) m).duties (sendCell k c) 0 = {0} := by
  dsimp only [exRd]; rw [if_neg (fun h => not_bar_send c k h.2)]; exact if_pos ⟨rfl, rfl, k, .inl rfl⟩
theorem duties_recv : (exRd (F := F) m).duties (recvCell k c) 0 = {0} := by
  dsimp only [exRd]; rw [if_neg (fun h => not_bar_recv c k h.2)]; exact if_pos ⟨rfl, rfl, k, .inr rfl⟩
theorem duties_later (g : GSem nD τ sig) : ∀ r, 1 ≤ r → (exRd (F := F) m).duties g r = ∅ :=
  fun r hr => by dsimp only [exRd]; rw [if_neg fun h => by omega, if_neg fun h => by omega]

theorem amount_bar (d : Fin 3) : (exRd (F := F) m).amount (barCell c) 0 d = 1 := rfl
theorem amount_send (d : Fin 3) : (exRd (F := F) m).amount (sendCell k c) 0 d = N := rfl
theorem amount_recv (d : Fin 3) : (exRd (F := F) m).amount (recvCell k c) 0 d = N := rfl

theorem expect_bar : (exRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (exRd (F := F) m).expect (sendCell k c) 0 = N := by
  unfold Schedule.expect Schedule.amountOf; rw [duties_send, Finset.sum_singleton, amount_send]
theorem expect_recv : (exRd (F := F) m).expect (recvCell k c) 0 = N := by
  unfold Schedule.expect Schedule.amountOf; rw [duties_recv, Finset.sum_singleton, amount_recv]

theorem payload_bar (d : Fin 3) : (exRd (F := F) m).payload (barCell c) 0 d = barPay d c := rfl
theorem payload_send (d : Fin 3) : (exRd (F := F) m).payload (sendCell k c) 0 d = sendPay k c := by
  show dmaPay m (sendS k) c = _; unfold dmaPay; rw [xcls_send]
theorem payload_recv (d : Fin 3) : (exRd (F := F) m).payload (recvCell k c) 0 d = recvPay m k c := by
  show dmaPay m (recvS k) c = _; unfold dmaPay; rw [xcls_recv]

theorem rest_bar : bigSep ((exRd (F := F) m).duties (barCell c) 0 \ ∅) (fun d => (exRd (F := F) m).payload (barCell c) 0 d)
    = iprop(barPay 0 c ∗ barPay 1 c ∗ barPay 2 c) := by
  rw [Finset.sdiff_empty, duties_bar]
  exact bigSep_univ_eq_bigSepL [0, 1, 2] (by decide) (by decide) _
theorem rest_send : bigSep ((exRd (F := F) m).duties (sendCell k c) 0 \ ∅) (fun d => (exRd (F := F) m).payload (sendCell k c) 0 d) = sendPay k c := by
  rw [Finset.sdiff_empty, duties_send, bigSep_singleton, payload_send]
theorem rest_recv : bigSep ((exRd (F := F) m).duties (recvCell k c) 0 \ ∅) (fun d => (exRd (F := F) m).payload (recvCell k c) 0 d) = recvPay m k c := by
  rw [Finset.sdiff_empty, duties_recv, bigSep_singleton, payload_recv]

end Sched

/-! ## What each core owes; the levels -/

/-- The receive credits device `c` owes from grid point 1 on, the first copy's last; -/
def OR2 (c : Dev nD) : CellTallies nD τ sig Unit := tallyAt (recvCell 2 (peer 2 c)) () N
def OR1 (c : Dev nD) : CellTallies nD τ sig Unit := OR2 c + tallyAt (recvCell 1 (peer 1 c)) () N
def OR (c : Dev nD) : CellTallies nD τ sig Unit := OR1 c + tallyAt (recvCell 0 (peer 0 c)) () N
/-- with the barrier units it owes at launch besides, the first signal's last. -/
def OB2 (c : Dev nD) : CellTallies nD τ sig Unit := OR c + tallyAt (barCell (peer 2 c)) () 1
def OB1 (c : Dev nD) : CellTallies nD τ sig Unit := OB2 c + tallyAt (barCell (peer 1 c)) () 1
def O₀ (c : Dev nD) : CellTallies nD τ sig Unit := OB1 c + tallyAt (barCell (peer 0 c)) () 1

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => match xcls q with | some (true, _) => 2 | _ => 0

theorem L_of_ne (g : GSem nD τ sig) (h : g.1.2 ≠ .tc) : L g = ∅ := if_neg h
theorem L_tc (c : Dev nD) (sm : SemLoc sig) : () ∈ L ((c : Thread nD τ), sm) := by unfold L; rw [if_pos rfl]; exact Finset.mem_singleton_self _
theorem lv_recv (k : Fin 3) (c : Dev nD) : lv (recvCell k c) () = 2 := by
  show (match xcls (recvS k) with | some (true, _) => 2 | _ => 0) = 2
  rw [xcls_recv]

theorem add_pos_or {O P : CellTallies nD τ sig Unit} {g : GSem nD τ sig} {u : Unit} (h : 0 < (O + P) g u) : 0 < O g u ∨ 0 < P g u := by
  rw [Pi.add_apply, Finsupp.add_apply] at h; omega

theorem OR_pos {c : Dev nD} {g : GSem nD τ sig} {u : Unit} (h : 0 < OR c g u) : ∃ k, g = recvCell k (peer k c) := by
  unfold OR OR1 OR2 at h
  rcases add_pos_or h with h | h
  · rcases add_pos_or h with h | h
    · exact ⟨2, (Pipeline.tallyAt_pos h).1⟩
    · exact ⟨1, (Pipeline.tallyAt_pos h).1⟩
  · exact ⟨0, (Pipeline.tallyAt_pos h).1⟩
theorem O₀_pos {c : Dev nD} {g : GSem nD τ sig} {u : Unit} (h : 0 < O₀ c g u) :
    (∃ k, g = recvCell k (peer k c)) ∨ ∃ k, g = barCell (peer k c) := by
  unfold O₀ OB1 OB2 at h
  rcases add_pos_or h with h | h
  · rcases add_pos_or h with h | h
    · rcases add_pos_or h with h | h
      · exact .inl (OR_pos h)
      · exact .inr ⟨2, (Pipeline.tallyAt_pos h).1⟩
    · exact .inr ⟨1, (Pipeline.tallyAt_pos h).1⟩
  · exact .inr ⟨0, (Pipeline.tallyAt_pos h).1⟩

omit [FloatOps F] in
/-- A staging wait is allowed whatever the kernel owes. -/
theorem mayWait_stage (c : Dev nD) (q : DmaSem sig) (hq : xcls q = none) (O : CellTallies nD τ sig Unit) (hO : O = O₀ c ∨ O = OR c ∨ O = 0) :
    (levAts L lv : sProp 𝕄) ⊢ MayWait (c : Thread nD τ) (.dma q) () O := by
  have h0 : lv ((c : Thread nD τ), .dma q) () = 0 := by
    show (match xcls q with | some (true, _) => 2 | _ => 0) = 0
    rw [hq]
  refine Pipeline.mayWait_of_levAts (L_tc c _) fun g u hg => ?_
  rw [h0]
  rcases hO with rfl | rfl | rfl
  · rcases O₀_pos hg with ⟨k, rfl⟩ | ⟨k, rfl⟩
    · exact ⟨L_tc _ _, by rw [lv_recv]; decide⟩
    · exact ⟨L_tc _ _, Nat.one_pos⟩
  · obtain ⟨k, rfl⟩ := OR_pos hg
    exact ⟨L_tc _ _, by rw [lv_recv]; decide⟩
  · exact absurd hg (Nat.lt_irrefl 0)

omit [FloatOps F] in
/-- At its barrier wait a device owes receive credits only, above its barrier cell. -/
theorem mayWait_bar (c : Dev nD) : (levAts L lv : sProp 𝕄) ⊢ MayWait (c : Thread nD τ) (.reg barS) () (OR c) := by
  refine Pipeline.mayWait_of_levAts (L_tc c _) fun g u hg => ?_
  obtain ⟨k, rfl⟩ := OR_pos hg
  exact ⟨L_tc _ _, by rw [lv_recv]; exact Nat.lt_succ_self 1⟩

/-! ## What a device holds between grid points -/

/-- Every cell's invariant, under the names `K` the launch allocated them at, and that every cell is at its round. -/
def records (K : Dev nD × Fin 7 → ℕ) : sProp 𝕄 :=
  iprop((bigSep Finset.univ fun ck : Dev nD × Fin 7 => cellInv ER (exRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (exRd m) (K ck) (kcell ck) := by
  unfold records
  exact (BI.sep_and.trans BI.and_elimL).trans (bigSep_elim (Finset.mem_univ ck))
theorem reached_at (K : Dev nD × Fin 7 → ℕ) (ck : Dev nD × Fin 7) : records m K ⊢ reached ER (kcell ck) 0 := by
  unfold records
  exact (BI.sep_and.trans BI.and_elimR).trans (bigSep_elim (Finset.mem_univ ck))
theorem inv_bar (K : Dev nD × Fin 7 → ℕ) (c : Dev nD) : records m K ⊢ cellInv ER (exRd m) (K (c, 0)) (barCell c) := inv_at m K (c, 0)
theorem inv_send (K : Dev nD × Fin 7 → ℕ) (k : Fin 3) (c : Dev nD) : records m K ⊢ cellInv ER (exRd m) (K (c, sIx k)) (sendCell k c) := by
  rw [← kcell_sIx]; exact inv_at m K (c, sIx k)
theorem inv_recv (K : Dev nD × Fin 7 → ℕ) (k : Fin 3) (c : Dev nD) : records m K ⊢ cellInv ER (exRd m) (K (c, rIx k)) (recvCell k c) := by
  rw [← kcell_rIx]; exact inv_at m K (c, rIx k)
theorem reached_bar (K : Dev nD × Fin 7 → ℕ) (c : Dev nD) : records m K ⊢ reached ER (barCell c) 0 := reached_at m K (c, 0)
theorem reached_send (K : Dev nD × Fin 7 → ℕ) (k : Fin 3) (c : Dev nD) : records m K ⊢ reached ER (sendCell k c) 0 := by
  rw [← kcell_sIx]; exact reached_at m K (c, sIx k)
theorem reached_recv (K : Dev nD × Fin 7 → ℕ) (k : Fin 3) (c : Dev nD) : records m K ⊢ reached ER (recvCell k c) 0 := by
  rw [← kcell_rIx]; exact reached_at m K (c, rIx k)

/-- The tokens of the barrier duties device `c` pays; -/
def barToks (c : Dev nD) : sProp 𝕄 :=
  iprop(dutyTok ER (barCell (peer 0 c)) 0 (opp 0) ∗ dutyTok ER (barCell (peer 1 c)) 0 (opp 1) ∗ dutyTok ER (barCell (peer 2 c)) 0 (opp 2))
/-- copy `k`'s holdings on device `c`: its positions at its own send and receive cell, the tokens of its own send duty
    and of the receive duty it pays, and the credit of the copy it will receive; -/
def copyGhost (k : Fin 3) (c : Dev nD) : sProp 𝕄 :=
  iprop(atPos ER (sendCell k c) 0 ∅ 0 ∗ atPos ER (recvCell k c) 0 ∅ 0
    ∗ dutyTok ER (sendCell k c) 0 0 ∗ dutyTok ER (recvCell k (peer k c)) 0 0 ∗ cred (tallyAt (recvCell k c) () N))
/-- what stays after grid point 0. -/
def late (K : Dev nD × Fin 7 → ℕ) (c : Dev nD) : sProp 𝕄 :=
  iprop(records m K ∗ atPos ER (barCell c) 0 ∅ 0 ∗ cred (tallyAt (barCell c) () 3) ∗ levAts L lv
    ∗ copyGhost 0 c ∗ copyGhost 1 c ∗ copyGhost 2 c)

/-- What device `c` starts from. -/
def start (c : Dev nD) : sProp 𝕄 := iprop(∃ K, late m K c ∗ barToks c)

/-- Before grid point 0: both scratch buffers at some contents; -/
def Φ₀ (c : Dev nD) : sProp 𝕄 :=
  iprop(start m c ∗ (∃ f, statPts c fullShare f) ∗ (∃ f, slotPts 0 c f) ∗ (∃ f, slotPts 1 c f) ∗ (∃ f, slotPts 2 c f))
/-- after grid point `n < 3`: the statistics so far, the gather buffer handed out; -/
def ΦM (n : ℕ) (c : Dev nD) : sProp 𝕄 :=
  iprop((∃ K, late m K c) ∗ ∃ f, ⌜Rows (accS m c n) (accL m c n) f⌝ ∗ statPts c fullShare f)
/-- after the last: both buffers back at some contents, the seven cells closed at zero. -/
def Φ₄ (c : Dev nD) : sProp 𝕄 :=
  iprop((∃ f, statPts (F := F) c fullShare f) ∗ ((∃ f, slotPts (F := F) 0 c f) ∗ (∃ f, slotPts (F := F) 1 c f) ∗ (∃ f, slotPts (F := F) 2 c f))
    ∗ semVal (barCell c) 0 ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

def phi (c : Dev nD) : ℕ → sProp 𝕄
  | 0 => Φ₀ m c | 1 => ΦM m 0 c | 2 => ΦM m 1 c | 3 => ΦM m 2 c | _ => Φ₄ c
def owedAt (c : Dev nD) : ℕ → CellTallies nD τ sig Unit
  | 0 => O₀ c | 1 => OR c | 2 => OR c | 3 => OR c | _ => 0

/-- The pipeline's proof data: the inputs' buffers hold their blocks throughout, the result's the kernel's result. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outAt m c
  Φ t := phi m c t.val
  q _ := fullShare
  owed t := owedAt c t.val

abbrev 𝒱₀ : Variants := Variants.none

end Cert.KernelIdealRun

end
-- ==== Proof.Steps.lean ====
/-
The rows of the statistics and gather buffers, and the kernel's effects as rules: a whole load of an owned block, the
signals, the waits and the copies.
-/
module

public import proofs.«01_k».proof.Proof.Protocol

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Rows -/

omit [FloatOps F] in
theorem rows_disjoint : Disjoint (statM.view.slice row1).set ((statM.view.slice row0).setOn Finset.univ) := by
  rw [View.setOn_univ]
  rw [show (statM.view.slice row1).set = row1.set from View.set_slice_whole cc0_scratch0 row1,
    show (statM.view.slice row0).set = row0.set from View.set_slice_whole cc0_scratch0 row0]
  exact Rect.unit_disjoint 0 (.inr (by decide))

/-- Storing both rows. -/
theorem Rows_write (S Lb : Vec F S1x512 .f32) (f : statM.view.ty.Contents (Elt F)) :
    Rows S Lb ((statM.access row1).write (Elt F) ((statM.access row0).write (Elt F) f S Finset.univ) Lb Finset.univ) := by
  constructor
  · rw [View.readAt_rect]
    refine (View.read_slice_write_slice_of_disjoint row0 row1 _ _ _ ?_).trans (View.read_write_univ _ _)
    rw [View.setOn_univ]
    have h := rows_disjoint
    rw [View.setOn_univ] at h
    exact h.symm
  · rw [View.readAt_rect]
    exact View.read_write_univ _ _

/-- Storing row 0 leaves row 1. -/
theorem row1_write0 (S : Vec F S1x512 .f32) (f : statM.view.ty.Contents (Elt F)) :
    statM.view.readAt (Elt F) row1.toLoadRect ((statM.access row0).write (Elt F) f S Finset.univ) = statM.view.readAt (Elt F) row1.toLoadRect f := by
  rw [View.readAt_rect, View.readAt_rect]
  exact View.read_slice_write_slice_of_disjoint row1 row0 _ _ _ rows_disjoint

/-- A slot written with the statistics holds the same rows. -/
theorem SlotRows_write (k : Fin 3) (S Lb : Vec F S1x512 .f32) (f : statM.view.ty.Contents (Elt F)) (h : Rows S Lb f)
    (g : (slotM k).view.ty.Contents (Elt F)) :
    SlotRows k S Lb ((slotM k).view.write (Elt F) g (statM.view.read (Elt F) f) Finset.univ) := by
  have e : (slotM k).view.read (Elt F) ((slotM k).view.write (Elt F) g (statM.view.read (Elt F) f) Finset.univ) = statM.view.read (Elt F) f :=
    View.read_write_univ _ _
  constructor
  · rw [← h.1]; funext x
    rw [View.readAt_apply, View.readAt_apply, e]
  · rw [← h.2]; funext x
    rw [View.readAt_apply, View.readAt_apply, e]

theorem gat_inb (k : Fin 3) (r : Fin 2) : ∀ a, (![k.val, r.val, 0] : Fin 3 → ℕ) a + S1x1x512.size a ≤ S3x8x512.size a := by
  revert k r; decide

/-- Row `r` of slot `k`, as the kernel's loads spell it. -/
abbrev gatR (k : Fin 3) (r : Fin 2) : Rect S3x8x512 := Rect.unit (s := S3x8x512) ![k.val, r.val, 0] S1x1x512.size (gat_inb k r)

theorem slot_read (k : Fin 3) (f : gatM.view.ty.Contents (Elt F)) (i : Fin 8) (j : Fin 512) :
    (slotM k).view.read (Elt F) f (ix2 i j) = gatM.view.read (Elt F) f (ix3 k i j) := by
  refine (shapeCast_1ab_ab_apply (gatM.view.readAt (Elt F) (Rect.unit (s := S3x8x512) ![k.val, 0, 0] S1x8x512.size (slot_inb k)).toLoadRect f) (by decide) i j).trans ?_
  rw [View.readAt_apply]
  congr 1
  funext a
  refine Fin.ext ?_
  fin_cases a
  · show k.val + 1 * 0 = k.val; omega
  · show 0 + 1 * i.val = i.val; omega
  · show 0 + 1 * j.val = j.val; omega

theorem gat_read0 (k : Fin 3) (S Lb : Vec F S1x512 .f32) (f : gatM.view.ty.Contents (Elt F)) (h : SlotRows k S Lb f) :
    gatM.view.readAt (Elt F) (gatR k 0).toLoadRect f = lift3 S := by
  funext x
  rw [View.readAt_apply, ← h.1]
  unfold lift3
  show _ = (slotM k).view.read (Elt F) f (row0.toLoadRect.idx (ix2 (0 : Fin 1) (x 2)))
  refine Eq.trans ?_ ((slot_read k f 0 (x 2)).symm.trans ?_)
  · congr 1; funext a; refine Fin.ext ?_
    fin_cases a
    · show k.val + 1 * (x 0).val = k.val; have : (x 0).val < 1 := (x 0).isLt; omega
    · show 0 + 1 * (x 1).val = 0; have : (x 1).val < 1 := (x 1).isLt; omega
    · show 0 + 1 * (x 2).val = (x 2).val; omega
  · congr 1; funext a; refine Fin.ext ?_
    fin_cases a
    · show 0 = 0 + 1 * 0; omega
    · show (x 2).val = 0 + 1 * (x 2).val; omega

theorem gat_read1 (k : Fin 3) (S Lb : Vec F S1x512 .f32) (f : gatM.view.ty.Contents (Elt F)) (h : SlotRows k S Lb f) :
    gatM.view.readAt (Elt F) (gatR k 1).toLoadRect f = lift3 Lb := by
  funext x
  rw [View.readAt_apply, ← h.2]
  unfold lift3
  show _ = (slotM k).view.read (Elt F) f (row1.toLoadRect.idx (ix2 (0 : Fin 1) (x 2)))
  refine Eq.trans ?_ ((slot_read k f 1 (x 2)).symm.trans ?_)
  · congr 1; funext a; refine Fin.ext ?_
    fin_cases a
    · show k.val + 1 * (x 0).val = k.val; have : (x 0).val < 1 := (x 0).isLt; omega
    · show 1 + 1 * (x 1).val = 1; have : (x 1).val < 1 := (x 1).isLt; omega
    · show 0 + 1 * (x 2).val = (x 2).val; omega
  · congr 1; funext a; refine Fin.ext ?_
    fin_cases a
    · show 1 = 1 + 1 * 0; omega
    · show (x 2).val = 0 + 1 * (x 2).val; omega

/-- The elements slot `k` covers: the leading coordinate is `k`. -/
theorem slot_set (k : Fin 3) : (slotM k).view.set = (Rect.unit (s := S3x8x512) ![k.val, 0, 0] S1x8x512.size (slot_inb k)).set :=
  (View.set_reshape _ _).trans (View.set_slice_whole _ _)

theorem gat_sub (k : Fin 3) (r : Fin 2) : gatM.view.setOn (gatR k r).toLoadRect.set ⊆ (slotM k).view.set := by
  rw [slot_set]
  intro i hi
  have hi' : i ∈ (gatR k r).set := by
    have : gatM.view.setOn (gatR k r).toLoadRect.set = (gatR k r).set := by
      show Finset.map _ _ = _
      exact Finset.map_refl
    rw [this] at hi; exact hi
  rw [Rect.mem_set_unit] at hi' ⊢
  intro a
  have := hi' a
  fin_cases a
  · exact this
  · exact ⟨Nat.zero_le _, by show (i 1).val < 0 + 8; have := (i 1).isLt; show (i 1).val < 0 + 8; exact (Nat.zero_add 8).symm ▸ this⟩
  · exact this

/-! ## Effects -/

/-- A whole load of an owned block continues at its contents. -/
theorem wp_load_owns (c : Dev nD) {sp : CoreSpace} {s : Shape} {e : EltTy} (M : Memref sig .tc sp s e) {off : Fin s.rank → ℕ}
    {inb : ∀ a, off a + s.size a ≤ s.size a} {hl : M.view.LoadsAt (Rect.unit off s.size inb).toLoadRect} {q : PosShare TreeShare} {X : s.Idx → Elt F e}
    {α : Type} {Q : α → sProp 𝕄} {k : (s.Idx → Elt F e) → Prog (TpuEff nD τ sig (Elt F) Λ₀ .tc) α} :
    (owns (Ix := Unit) (Name := ℕ) (U := UU) (Lvl := ℕ) (c : Thread nD τ) M q X : sProp 𝕄)
      ⊢ iprop((owns (Ix := Unit) (Name := ℕ) (U := UU) (Lvl := ℕ) (c : Thread nD τ) M q X -∗ wp frame (wpE (defs₀ (F := F)) 𝒱₀ (c : Thread nD τ) none) Set.univ (k X) Q)
        -∗ wp frame (wpE (defs₀ (F := F)) 𝒱₀ (c : Thread nD τ) none) Set.univ (.op (.load M (Rect.unit off s.size inb).toLoadRect hl) k) Q) := by
  unfold owns
  iintro ⟨%f, %hf, H⟩ Hk
  iapply (wp_load 𝒱₀ (c : Thread nD τ) none Set.univ (m := M) (r := (Rect.unit off s.size inb).toLoadRect) (View.setOn_subset_set _ _)) $$ H
  iintro H
  rw [show M.view.readAt (Elt F) (Rect.unit off s.size inb).toLoadRect f = X from (View.readAt_full M.view f inb).trans hf]
  iapply Hk
  iexists f
  isplitr; · ipureintro; exact hf
  iexact H

/-- A whole store to an owned block leaves it at what was stored. -/
theorem wp_store_owns (c : Dev nD) {sp : CoreSpace} {s : Shape} {e : EltTy} (M : Memref sig .tc sp s e) {off : Fin s.rank → ℕ}
    {inb : ∀ a, off a + s.size a ≤ s.size a} {w : s.Idx → Elt F e} {hx : (M.access (Rect.unit off s.size inb)).Stores Finset.univ}
    {hm : (Finset.univ : Finset (Rect.unit off s.size inb).shape.Idx) = Finset.univ ∨ ∀ a, (Rect.unit off s.size inb).stride a = 1} {X : s.Idx → Elt F e}
    {α : Type} {Q : α → sProp 𝕄} {k : PUnit → Prog (TpuEff nD τ sig (Elt F) Λ₀ .tc) α} :
    (owns (Ix := Unit) (Name := ℕ) (U := UU) (Lvl := ℕ) (c : Thread nD τ) M fullShare X : sProp 𝕄)
      ⊢ iprop((owns (Ix := Unit) (Name := ℕ) (U := UU) (Lvl := ℕ) (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit off s.size inb) w Finset.univ hx hm) k) Q) := by
  unfold owns
  iintro ⟨%f, %hf, H⟩ Hk
  iapply (wp_store 𝒱₀ (c : Thread nD τ) none Set.univ (m := M) (r := Rect.unit off s.size inb) (Mk := Finset.univ)
    (by rw [View.setOn_univ]; exact View.set_slice_subset _ _)) $$ H
  iintro H
  iapply Hk
  iexists ((M.access (Rect.unit off s.size inb)).write (Elt F) f w Finset.univ)
  isplitr
  · ipureintro
    refine (View.readAt_full M.view _ inb).symm.trans ?_
    exact View.read_write_univ (v := M.access (Rect.unit off s.size inb)) f w
  iexact H

/-- A load of a row of the statistics buffer, or of row `r` of a held slot. -/
theorem wp_load_stat (c : Dev nD) (r : Rect S8x512) {hl : statM.view.LoadsAt r.toLoadRect} {q : PosShare TreeShare} {f : Buf (Elt F) (statM.view.loc (c : Thread nD τ))}
    {α : Type} {Q : α → sProp 𝕄} {k : (r.shape.Idx → Elt F .f32) → Prog (TpuEff nD τ sig (Elt F) Λ₀ .tc) α} :
    (statPts c q f : sProp 𝕄)
      ⊢ iprop((statPts c q f -∗ wp frame (wpE (defs₀ (F := F)) 𝒱₀ (c : Thread nD τ) none) Set.univ (k (statM.view.readAt (Elt F) r.toLoadRect f)) Q)
        -∗ wp frame (wpE (defs₀ (F := F)) 𝒱₀ (c : Thread nD τ) none) Set.univ (.op (.load statM r.toLoadRect hl) k) Q) := by
  unfold statPts
  exact wp_load 𝒱₀ (c : Thread nD τ) none Set.univ (m := statM) (View.setOn_subset_set _ _)

theorem wp_store_stat (c : Dev nD) (r : Rect S8x512) {w : r.shape.Idx → Elt F .f32} {hx : (statM.access r).Stores Finset.univ} {hm : (Finset.univ : Finset r.shape.Idx) = Finset.univ ∨ ∀ a, r.stride a = 1}
    {f : Buf (Elt F) (statM.view.loc (c : Thread nD τ))} {α : Type} {Q : α → sProp 𝕄} {k : PUnit → Prog (TpuEff nD τ sig (Elt F) Λ₀ .tc) α} :
    (statPts c fullShare f : sProp 𝕄)
      ⊢ iprop((statPts c fullShare ((statM.access r).write (Elt F) f w Finset.univ) -∗ wp frame (wpE (defs₀ (F := F)) 𝒱₀ (c : Thread nD τ) none) Set.univ (k ⟨⟩) Q)
        -∗ wp frame (wpE (defs₀ (F := F)) 𝒱₀ (c : Thread nD τ) none) Set.univ (.op (.store statM r w Finset.univ hx hm) k) Q) := by
  unfold statPts
  exact wp_store 𝒱₀ (c : Thread nD τ) none Set.univ (m := statM) (r := r) (Mk := Finset.univ) (by rw [View.setOn_univ]; exact View.set_slice_subset _ _)

theorem wp_load_slot (c : Dev nD) (k : Fin 3) (r : Fin 2) {hl : gatM.view.LoadsAt (gatR k r).toLoadRect} {f : Buf (Elt F) ((slotM k).view.loc (c : Thread nD τ))}
    {α : Type} {Q : α → sProp 𝕄} {kk : (S1x1x512.Idx → Elt F .f32) → Prog (TpuEff nD τ sig (Elt F) Λ₀ .tc) α} :
    (slotPts k c f : sProp 𝕄)
      ⊢ iprop((slotPts k c f -∗ wp frame (wpE (defs₀ (F := F)) 𝒱₀ (c : Thread nD τ) none) Set.univ (kk (gatM.view.readAt (Elt F) (gatR k r).toLoadRect f)) Q)
        -∗ wp frame (wpE (defs₀ (F := F)) 𝒱₀ (c : Thread nD τ) none) Set.univ (.op (.load gatM (gatR k r).toLoadRect hl) kk) Q) := by
  unfold slotPts
  exact wp_load 𝒱₀ (c : Thread nD τ) none Set.univ (m := gatM) (S := (slotM k).view.set) (gat_sub k r)

/-- Copy `k`: a lent share of the statistics, rows known, into slot `k` of the device `k + 1` places ahead. -/
theorem wp_copy (K : Dev nD × Fin 7 → ℕ) (c n : Dev nD) (k : Fin 3) (hn : n = peer k c) (D : Memref sig .tc .vmem S8x512 .f32) (hD : slotM k = D)
    (sS rS : DmaSem sig) (hs : sS = sendS k) (hr : rS = recvS k)
    {hsc : (D : Memref sig (Dev.tc n : Thread nD τ).2.kind .vmem S8x512 .f32).view.ref.isScScratch = false}
    {hsrc : statM.view.WordExact} {hdst : D.view.WordExact}
    {hsem : DmaTarget.Typed .vmem (.dma rS) (.remote (Dev.tc n : Thread nD τ) D (.dma sS) hsc)}
    {α : Type} {Q : α → sProp 𝕄} {kk : PUnit → Prog (TpuEff nD τ sig (Elt F) Λ₀ .tc) α}
    (O₁ O : CellTallies nD τ sig Unit) (hO : O₁ = O + tallyAt (recvCell k (peer k c)) () N) (W : Waits sig Unit)
    (f : Buf (Elt F) (statM.view.loc (c : Thread nD τ))) (hf : Rows (accS m c 3) (accL m c 3) f) :
    iprop(records m K ∗ statPts c (lent k) f ∗ (∃ g, slotPts k (peer k c) g) ∗ owes (c : Thread nD τ) O₁ W
        ∗ dutyTok ER (sendCell k c) 0 0 ∗ dutyTok ER (recvCell k (peer k c)) 0 0)
      ⊢ iprop(((cred (tallyAt (sendCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma statM (.remote (Dev.tc n : Thread nD τ) D (.dma sS) hsc) (.dma rS) hsrc hdst hsem) kk) Q) := by
  subst hn hD hs hr
  iintro ⟨#HR, Hs, ⟨%g, Hg⟩, Ho, Ht1, Ht2⟩
  iapply (Rounds.wp_send_pointsTo 𝒱₀ ER (exRd m) (c : Thread nD τ) none (κ₁ := K (c, sIx k)) (κ₂ := K (peer k c, rIx k))
    (r₁ := 0) (r₂ := 0) (d₁ := 0) (d₂ := 0) (fs := f) (fd := g) (q := lent k)
    (by rw [duties_send]; exact Finset.mem_singleton_self _) (by rw [duties_recv]; exact Finset.mem_singleton_self _)
    () () N (by fin_cases k <;> rfl) (amount_send m c k 0) (amount_recv m (peer k c) k 0) O hO (W := W)
    (by rw [payload_send]; unfold sendPay statPts; iintro H; iexists f; iexact H)
    (by
      rw [payload_recv]; unfold recvPay slotPts
      iintro H; iexists _
      isplitr
      · ipureintro
        rw [show src k (peer k c) = c from peer_opp k c]
        exact SlotRows_write k _ _ f hf g
      iexact H))
  isplitr; · iapply (inv_send m K k c); iexact HR
  isplitr; · iapply (inv_recv m K k (peer k c)); iexact HR
  isplitl [Hs]; · unfold statPts; iexact Hs
  isplitl [Hg]; · unfold slotPts; iexact Hg
  isplitl [Ho]; · iexact Ho
  isplitl [Ht1]; · iexact Ht1
  isplitr; · iapply (reached_send m K k c); iexact HR
  isplitl [Ht2]; · iexact Ht2
  iapply (reached_recv m K k (peer k c)); iexact HR

/-- The wait on send cell `k`: the lent share back, the cell closed. -/
theorem wp_wait_send (K : Dev nD × Fin 7 → ℕ) (c : Dev nD) (k : Fin 3) (sS : DmaSem sig) (hs : sS = sendS k)
    (A D : Memref sig .tc .vmem S8x512 .f32) (hD : D.view.dmaCredit = N) {hA : A.view.WordExact} {hD' : D.view.WordExact}
    {α : Type} {Q : α → sProp 𝕄} {kk : PUnit → Prog (TpuEff nD τ sig (Elt F) Λ₀ .tc) α} (W : Waits sig Unit) :
    iprop(records m K ∗ cred (tallyAt (sendCell k c) () N) ∗ owes (c : Thread nD τ) 0 W ∗ atPos ER (sendCell k c) 0 ∅ 0)
      ⊢ iprop(((owes (c : Thread nD τ) 0 (insert (SemLoc.dma (sendS k), ()) W) ∗ semVal (sendCell k c) 0 ∗ (∃ f, statPts c (lent k) f))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS A D hA hD') kk) Q) := by
  subst hs
  iintro ⟨#HR, Hc, Ho, Ha⟩ Hk
  ihave #HI := (inv_send m K k c) $$ HR
  iapply (Rounds.wp_wait_rest_token 𝒱₀ ER (exRd m) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, hD, expect_send])) $$ [Hc Ho Ha]
  · isplitr; · iexact HI
    isplitl [Hc]; · rw [hD]; iexact Hc
    isplitl [Ho]; · iexact Ho
    isplitr; · rw [MayWait_zero]; iempintro
    iexact Ha
  iintro ⟨Ho, Ha, -, Hp⟩
  imod (Rounds.cell_close ER (exRd m) (Set.mem_univ (K (c, sIx k))) (fun h => h) (R := 0 + 1) (duties_later m (sendCell k c))) $$ [Ha] with Hz
  · isplitr; · iexact HI
    iexact Ha
  iapply Hk
  isplitl [Ho]; · iexact Ho
  isplitl [Hz]; · iexact Hz
  ihave Hp := (Entails.of_eq (rest_send m c k)) $$ Hp
  unfold sendPay
  iexact Hp

/-- The wait on receive cell `k`: slot `k` holding its sender's rows, the cell closed. -/
theorem wp_wait_recv (K : Dev nD × Fin 7 → ℕ) (c : Dev nD) (k : Fin 3) (rS : DmaSem sig) (hs : rS = recvS k)
    (A D : Memref sig .tc .vmem S8x512 .f32) (hD : D.view.dmaCredit = N) {hA : A.view.WordExact} {hD' : D.view.WordExact}
    {α : Type} {Q : α → sProp 𝕄} {kk : PUnit → Prog (TpuEff nD τ sig (Elt F) Λ₀ .tc) α} (W : Waits sig Unit) :
    iprop(records m K ∗ cred (tallyAt (recvCell k c) () N) ∗ owes (c : Thread nD τ) 0 W ∗ atPos ER (recvCell k c) 0 ∅ 0)
      ⊢ iprop(((owes (c : Thread nD τ) 0 (insert (SemLoc.dma (recvS k), ()) W) ∗ semVal (recvCell k c) 0 ∗ recvPay m k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 rS A D hA hD') kk) Q) := by
  subst hs
  iintro ⟨#HR, Hc, Ho, Ha⟩ Hk
  ihave #HI := (inv_recv m K k c) $$ HR
  iapply (Rounds.wp_wait_rest_token 𝒱₀ ER (exRd m) (c : Thread nD τ) none (κ := K (c, rIx k))
      (wpE_waitDma2_eq 𝒱₀ (c : Thread nD τ) none Set.univ) (Set.mem_univ _) () (O := 0) (W := W) (R := 0) (m := 0) (T := ∅)
      (by rw [Nat.zero_add, hD, expect_recv])) $$ [Hc Ho Ha]
  · isplitr; · iexact HI
    isplitl [Hc]; · rw [hD]; iexact Hc
    isplitl [Ho]; · iexact Ho
    isplitr; · rw [MayWait_zero]; iempintro
    iexact Ha
  iintro ⟨Ho, Ha, -, Hp⟩
  imod (Rounds.cell_close ER (exRd m) (Set.mem_univ (K (c, rIx k))) (fun h => h) (R := 0 + 1) (duties_later m (recvCell k c))) $$ [Ha] with Hz
  · isplitr; · iexact HI
    iexact Ha
  iapply Hk
  isplitl [Ho]; · iexact Ho
  isplitl [Hz]; · iexact Hz
  iapply (Entails.of_eq (rest_recv m c k)); iexact Hp

/-- Signal `j`: one unit on the barrier cell of the device `j + 1` places ahead, handing it the slot it will fill. -/
theorem wp_sig (K : Dev nD × Fin 7 → ℕ) (c n : Dev nD) (j : Fin 3) (hn : n = peer j c)
    {α : Type} {Q : α → sProp 𝕄} {kk : PUnit → Prog (TpuEff nD τ sig (Elt F) Λ₀ .tc) α} {w : ℕ} (hw : w = 1)
    (O₁ O : CellTallies nD τ sig Unit) (hO : O₁ = O + tallyAt (barCell (peer j c)) () 1) (W : Waits sig Unit) :
    iprop(records m K ∗ owes (c : Thread nD τ) O₁ W ∗ dutyTok ER (barCell (peer j c)) 0 (opp j) ∗ (∃ f, slotPts (opp j) c f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS w) kk) Q) := by
  subst hn hw
  iintro ⟨#HR, Ho, Ht, Hs⟩
  iapply (Rounds.wp_signal 𝒱₀ ER (exRd m) (c : Thread nD τ) none (dst := (peer j c : Thread nD τ)) (κ := K (peer j c, 0))
      (d := opp j) (by rw [duties_bar]; exact Finset.mem_univ _) (amount_bar m (peer j c) (opp j)) () O hO)
  isplitr; · iapply (inv_bar m K (peer j c)); iexact HR
  isplitl [Ho]; · iexact Ho
  isplitl [Ht]; · iexact Ht
  isplitl [Hs]
  · rw [payload_bar]; unfold barPay; rw [peer_opp]
    isplitl [Hs]; · iexact Hs
    iapply (reached_recv m K (opp j) c); iexact HR
  iapply (reached_bar m K (peer j c)); iexact HR

/-- The barrier wait: the three slots this device will fill, the cell closed. -/
theorem wp_wait_bar (K : Dev nD × Fin 7 → ℕ) (c : Dev nD) {w : ℕ} (hw : w = 3)
    {α : Type} {Q : α → sProp 𝕄} {kk : PUnit → Prog (TpuEff nD τ sig (Elt F) Λ₀ .tc) α} (W : Waits sig Unit) :
    iprop(records m K ∗ cred (tallyAt (barCell c) () 3) ∗ owes (c : Thread nD τ) (OR c) W ∗ levAts L lv ∗ atPos ER (barCell c) 0 ∅ 0)
      ⊢ iprop(((owes (c : Thread nD τ) (OR c) (insert (SemLoc.reg barS, ()) W) ∗ semVal (barCell c) 0
              ∗ (∃ f, slotPts 0 (peer 0 c) f) ∗ (∃ f, slotPts 1 (peer 1 c) f) ∗ (∃ f, slotPts 2 (peer 2 c) f))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS w) kk) Q) := by
  subst hw
  iintro ⟨#HR, Hc, Ho, #Hlev, Ha⟩ Hk
  ihave #HI := (inv_bar m K c) $$ HR
  iapply (Rounds.wp_wait_rest_token 𝒱₀ ER (exRd m) (c : Thread nD τ) none (κ := K (c, 0))
      (wpE_semWait_eq 𝒱₀ (c : Thread nD τ) none Set.univ) (Set.mem_univ _) () (O := OR c) (W := W) (R := 0) (m := 0) (T := ∅)
      (by rw [expect_bar])) $$ [Hc Ho Ha]
  · isplitr; · iexact HI
    isplitl [Hc]; · iexact Hc
    isplitl [Ho]; · iexact Ho
    isplitr; · iapply (mayWait_bar c); iexact Hlev
    iexact Ha
  iintro ⟨Ho, Ha, -, Hp⟩
  imod (Rounds.cell_close ER (exRd m) (Set.mem_univ (K (c, 0))) (fun h => h) (R := 0 + 1) (duties_later m (barCell c))) $$ [Ha] with Hz
  · isplitr; · iexact HI
    iexact Ha
  ihave Hp := (Entails.of_eq (rest_bar m c)) $$ Hp
  unfold barPay
  icases Hp with ⟨⟨H0, -⟩, ⟨H1, -⟩, ⟨H2, -⟩⟩
  iapply Hk
  isplitl [Ho]; · iexact Ho
  isplitl [Hz]; · iexact Hz
  isplitl [H0]; · iexact H0
  isplitl [H1] <;> iassumption

/-! ## The lent shares of the statistics -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) _

/-- The statistics split into what is kept and the three lent shares; -/
theorem stat_split (c : Dev nD) (f : Buf (Elt F) (statM.view.loc (c : Thread nD τ))) :
    (statPts c fullShare f : sProp 𝕄) ⊢ iprop(statPts c kept f ∗ statPts c (lent 0) f ∗ statPts c (lent 1) f ∗ statPts c (lent 2) f) := by
  unfold statPts
  refine (Transfers.pointsTo_toks_split fullShare 3).trans ?_
  iintro ⟨H, Hs⟩
  isplitl [H]; · iexact H
  ihave Hs := (Entails.of_eq (bigSep_three (F := F) _)) $$ Hs
  iexact Hs

omit [FloatOps F] in
theorem stat_agree (c : Dev nD) (q : PosShare TreeShare) (f g : Buf (Elt F) (statM.view.loc (c : Thread nD τ))) :
    iprop(statPts c kept f ∗ statPts c q g) ⊢ (iprop(statPts c kept f ∗ statPts c q f) : sProp 𝕄) := by
  unfold statPts
  iintro H
  ihave %h := pointsTo_agree $$ H
  have e : (statM.view.loc (c : Thread nD τ) ↦[statM.view.set]{q} g : sProp 𝕄) = (statM.view.loc (c : Thread nD τ) ↦[statM.view.set]{q} f) :=
    pointsTo_congr fun i hi => ((h i (Finset.mem_inter.mpr ⟨hi, hi⟩)).1).symm
  rw [← e]; iexact H

/-- and joined again, whatever contents the lent shares come back at. -/
theorem stat_join (c : Dev nD) (f : Buf (Elt F) (statM.view.loc (c : Thread nD τ))) :
    iprop(statPts c kept f ∗ (∃ g, statPts c (lent 0) g) ∗ (∃ g, statPts c (lent 1) g) ∗ (∃ g, statPts c (lent 2) g)) ⊢ (statPts c fullShare f : sProp 𝕄) := by
  iintro ⟨H, ⟨%g0, H0⟩, ⟨%g1, H1⟩, ⟨%g2, H2⟩⟩
  ihave HH := (stat_agree c (lent 0) f g0) $$ [H H0]
  · isplitl [H] <;> iassumption
  icases HH with ⟨H, H0⟩
  ihave HH := (stat_agree c (lent 1) f g1) $$ [H H1]
  · isplitl [H] <;> iassumption
  icases HH with ⟨H, H1⟩
  ihave HH := (stat_agree c (lent 2) f g2) $$ [H H2]
  · isplitl [H] <;> iassumption
  icases HH with ⟨H, H2⟩
  unfold statPts
  iapply (Transfers.pointsTo_toks_join fullShare 3)
  isplitl [H]; · iexact H
  iapply (Entails.of_eq (bigSep_three (F := F) _).symm)
  isplitl [H0]; · iexact H0
  isplitl [H1] <;> iassumption

end Cert.KernelIdealRun

end
-- ==== Proof.Body.lean ====
/-
The kernel body at a grid point: the chunk's statistics (first point and later points), then at the last point the
exchange and the result.
-/
module

public import proofs.«01_k».proof.Proof.Steps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

section Parts

variable (i : grid0.Coords) (arg1 : Memref sig .tc .vmem S512x1024 .bf16) (harg1 : arg1.IsWhole) (arg2 : Memref sig .tc .vmem S1024x2048 .bf16) (harg2 : arg2.IsWhole)
  (arg3 : Memref sig .tc .vmem S512 .i32) (harg3 : arg3.IsWhole) (arg4 : Memref sig .tc .vmem S512 .f32) (harg4 : arg4.IsWhole)
  (harg5 : (statM : Memref sig .tc .vmem S8x512 .f32).IsWhole) (harg6 : (gatM : Memref sig .tc .vmem S3x8x512 .f32).IsWhole)

/-- The printed conditions "first grid point" and "later grid point" on the statistics. -/
abbrev condFirst (i : grid0.Coords) : BitVec 1 := Scalar.cmpi .ne (Scalar.extui (Scalar.cmpi .eq (BitVec.ofNat 32 (i 0).val) 0#32) : BitVec 32) 0#32
abbrev condLater (i : grid0.Coords) : BitVec 1 := Scalar.cmpi .ne (Scalar.extui (Scalar.cmpi .sgt (BitVec.ofNat 32 (i 0).val) 0#32) : BitVec 32) 0#32

/-- An input block held by device `c`. -/
abbrev ownsB (c : Dev nD) {sp : CoreSpace} {s : Shape} {e : EltTy} (M : Memref sig .tc sp s e) (X : s.Idx → Elt F e) : sProp 𝕄 :=
  owns (Ix := Unit) (Name := ℕ) (U := UU) (Lvl := ℕ) (c : Thread nD τ) M fullShare X

set_option maxHeartbeats 1600000 in
/-- The chunk's statistics at a later grid point: the signals skipped, both rows taken up by the chunk's. -/
theorem part4_later (h1 : ¬ k0_cond1 i = 1#1) (h2 : ¬ condFirst i = 1#1) (h3 : condLater i = 1#1)
    (c : Dev nD) (X : Vec F S512x1024 .bf16) (W : Vec F S1024x2048 .bf16) (lab : Vec F S512 .i32) (S Lb : Vec F S1x512 .f32)
    (f : Buf (Elt F) (statM.view.loc (c : Thread nD τ))) (hf : Rows S Lb f)
    (Kt : (Σ' (arg0 : BitVec 32) (d0 : Dev nD) (v2 : BitVec 32) (v3 : Sems sig S_), BitVec 32) → sProp 𝕄) :
    iprop(ownsB c arg1 X ∗ ownsB c arg2 W ∗ ownsB c arg3 lab ∗ statPts c fullShare f
        ∗ (∀ a b, (ownsB c arg1 X ∗ ownsB c arg2 W ∗ ownsB c arg3 lab ∗ ∃ g, ⌜Rows (k0_pay9 X W S) (k0_pay10 i c X W lab Lb) g⌝ ∗ statPts c fullShare g)
            -∗ Kt ⟨a, c, b, SemArray.scalar (sig.barrier 0 rfl), 3#32⟩))
      ⊢ wp frame (wpE (defs₀ (F := F)) 𝒱₀ (c : Thread nD τ) none) Set.univ
          (k0_part4 (F := F) i arg1 harg1 arg2 harg2 arg3 harg3 arg4 harg4 statM harg5 gatM harg6 cc0_scratch2 cc0_scratch3) Kt := by
  simp only [k0_part4_eq_skeleton]; unfold k0_part4_skel
  simp only [dif_neg h1, dif_neg h2, dif_pos h3, semSignalWord, semWaitWord, Prog.lift, Prog.bind_op, Prog.bind_ret, Prog.pure_eq_ret, wp_deviceId]
  iintro ⟨H1, H2, H3, Hs, Hk⟩
  iapply (wp_load_owns c arg1) $$ H1; iintro H1
  iapply (wp_load_owns c arg2) $$ H2; iintro H2
  iapply (wp_load_owns c arg3) $$ H3; iintro H3
  iapply (wp_load_stat c row0) $$ Hs; iintro Hs
  iapply (wp_load_stat c row0) $$ Hs; iintro Hs
  iapply (wp_store_stat c row0) $$ Hs; iintro Hs
  iapply (wp_load_stat c row1) $$ Hs; iintro Hs
  iapply (wp_load_stat c row1) $$ Hs; iintro Hs
  iapply (wp_store_stat c row1) $$ Hs; iintro Hs
  rw [wp_ret, row1_write0, hf.1, hf.2]; imodintro
  iapply Hk
  isplitl [H1]; · iexact H1
  isplitl [H2]; · iexact H2
  isplitl [H3]; · iexact H3
  iexists _
  isplitr
  · ipureintro
    exact Rows_write _ _ f
  iexact Hs

set_option maxHeartbeats 1600000 in
/-- The first grid point: the three signals, each handing over a slot of this device's gather buffer; then both rows set. -/
theorem part4_first (h1 : k0_cond1 i = 1#1) (h2 : condFirst i = 1#1) (h3 : ¬ condLater i = 1#1)
    (K : Dev nD × Fin 7 → ℕ) (c : Dev nD) (X : Vec F S512x1024 .bf16) (W : Vec F S1024x2048 .bf16) (lab : Vec F S512 .i32) (Wt : Waits sig Unit)
    (Kt : (Σ' (arg0 : BitVec 32) (d0 : Dev nD) (v2 : BitVec 32) (v3 : Sems sig S_), BitVec 32) → sProp 𝕄) :
    iprop(records m K ∗ barToks c ∗ ((∃ f, slotPts 0 c f) ∗ (∃ f, slotPts 1 c f) ∗ (∃ f, slotPts 2 c f)) ∗ owes (c : Thread nD τ) (O₀ c) Wt
        ∗ ownsB c arg1 X ∗ ownsB c arg2 W ∗ ownsB c arg3 lab ∗ (∃ f, statPts c fullShare f)
        ∗ (∀ a b, (owes (c : Thread nD τ) (OR c) Wt ∗ ownsB c arg1 X ∗ ownsB c arg2 W ∗ ownsB c arg3 lab
              ∗ ∃ g, ⌜Rows (k0_pay7 X W) (k0_pay8 i c X W lab) g⌝ ∗ statPts c fullShare g)
            -∗ Kt ⟨a, c, b, SemArray.scalar (sig.barrier 0 rfl), 3#32⟩))
      ⊢ wp frame (wpE (defs₀ (F := F)) 𝒱₀ (c : Thread nD τ) none) Set.univ
          (k0_part4 (F := F) i arg1 harg1 arg2 harg2 arg3 harg3 arg4 harg4 statM harg5 gatM harg6 cc0_scratch2 cc0_scratch3) Kt := by
  simp only [k0_part4_eq_skeleton]; unfold k0_part4_skel
  simp only [dif_pos h1, dif_pos h2, dif_neg h3, semSignalWord, semWaitWord, Prog.lift, Prog.bind_op, Prog.bind_ret, Prog.pure_eq_ret, wp_deviceId]
  unfold barToks
  iintro ⟨#HR, ⟨Ht0, Ht1, Ht2⟩, ⟨Hg0, Hg1, Hg2⟩, Ho, H1, H2, H3, ⟨%f, Hs⟩, Hk⟩
  iapply (wp_sig m K c _ 0 (dev1_eq i c h1) (by decide) (O₀ c) (OB1 c) rfl Wt) $$ [Ho Ht0 Hg2]
  · isplitr; · iexact HR
    isplitl [Ho]; · iexact Ho
    isplitl [Ht0]; · iexact Ht0
    iexact Hg2
  iintro Ho
  iapply (wp_sig m K c _ 1 (dev2_eq i c h1) (by decide) (OB1 c) (OB2 c) rfl Wt) $$ [Ho Ht1 Hg1]
  · isplitr; · iexact HR
    isplitl [Ho]; · iexact Ho
    isplitl [Ht1]; · iexact Ht1
    iexact Hg1
  iintro Ho
  iapply (wp_sig m K c _ 2 (dev3_eq i c h1) (by decide) (OB2 c) (OR c) rfl Wt) $$ [Ho Ht2 Hg0]
  · isplitr; · iexact HR
    isplitl [Ho]; · iexact Ho
    isplitl [Ht2]; · iexact Ht2
    iexact Hg0
  iintro Ho
  iapply (wp_load_owns c arg1) $$ H1; iintro H1
  iapply (wp_load_owns c arg2) $$ H2; iintro H2
  iapply (wp_load_owns c arg3) $$ H3; iintro H3
  iapply (wp_load_stat c row0) $$ Hs; iintro Hs
  iapply (wp_store_stat c row0) $$ Hs; iintro Hs
  iapply (wp_load_stat c row1) $$ Hs; iintro Hs
  iapply (wp_store_stat c row1) $$ Hs; iintro Hs
  rw [wp_ret]; imodintro
  iapply Hk
  isplitl [Ho]; · iexact Ho
  isplitl [H1]; · iexact H1
  isplitl [H2]; · iexact H2
  isplitl [H3]; · iexact H3
  iexists _
  isplitr
  · ipureintro
    exact Rows_write _ _ f
  iexact Hs

/-- The body at grid point 0. -/
theorem body_first (h1 : k0_cond1 i = 1#1) (h2 : condFirst i = 1#1) (h3 : ¬ condLater i = 1#1) (h4 : ¬ k0_cond4 i = 1#1)
    (K : Dev nD × Fin 7 → ℕ) (c : Dev nD) (X : Vec F S512x1024 .bf16) (W : Vec F S1024x2048 .bf16) (lab : Vec F S512 .i32) (Wt : Waits sig Unit)
    (Kt : PUnit → sProp 𝕄) :
    iprop(records m K ∗ barToks c ∗ ((∃ f, slotPts 0 c f) ∗ (∃ f, slotPts 1 c f) ∗ (∃ f, slotPts 2 c f)) ∗ owes (c : Thread nD τ) (O₀ c) Wt
        ∗ ownsB c arg1 X ∗ ownsB c arg2 W ∗ ownsB c arg3 lab ∗ (∃ f, statPts c fullShare f)
        ∗ ((owes (c : Thread nD τ) (OR c) Wt ∗ ownsB c arg1 X ∗ ownsB c arg2 W ∗ ownsB c arg3 lab
              ∗ ∃ g, ⌜Rows (k0_pay7 X W) (k0_pay8 i c X W lab) g⌝ ∗ statPts c fullShare g) -∗ Kt ⟨⟩))
      ⊢ wp frame (wpE (defs₀ (F := F)) 𝒱₀ (c : Thread nD τ) none) Set.univ
          (cc0_body (F := F) i arg1 harg1 arg2 harg2 arg3 harg3 arg4 harg4 statM harg5 gatM harg6 cc0_scratch2 cc0_scratch3) Kt := by
  simp only [cc0_body_eq_skeleton]; unfold cc0_body_skel
  simp only [dif_neg h4, wp_bind]
  iintro ⟨HR, Ht, Hg, Ho, H1, H2, H3, Hs, Hk⟩
  iapply (part4_first m i arg1 harg1 arg2 harg2 arg3 harg3 arg4 harg4 harg5 harg6 h1 h2 h3 K c X W lab Wt)
  isplitl [HR]; · iexact HR
  isplitl [Ht]; · iexact Ht
  isplitl [Hg]; · iexact Hg
  isplitl [Ho]; · iexact Ho
  isplitl [H1]; · iexact H1
  isplitl [H2]; · iexact H2
  isplitl [H3]; · iexact H3
  isplitl [Hs]; · iexact Hs
  iintro %a %b H
  simp only [Prog.pure_eq_ret, wp_ret]
  imodintro
  iapply Hk; iexact H

/-- The body at grid points 1 and 2. -/
theorem body_mid (h1 : ¬ k0_cond1 i = 1#1) (h2 : ¬ condFirst i = 1#1) (h3 : condLater i = 1#1) (h4 : ¬ k0_cond4 i = 1#1)
    (c : Dev nD) (X : Vec F S512x1024 .bf16) (W : Vec F S1024x2048 .bf16) (lab : Vec F S512 .i32) (S Lb : Vec F S1x512 .f32)
    (f : Buf (Elt F) (statM.view.loc (c : Thread nD τ))) (hf : Rows S Lb f)
    (Kt : PUnit → sProp 𝕄) :
    iprop(ownsB c arg1 X ∗ ownsB c arg2 W ∗ ownsB c arg3 lab ∗ statPts c fullShare f
        ∗ ((ownsB c arg1 X ∗ ownsB c arg2 W ∗ ownsB c arg3 lab ∗ ∃ g, ⌜Rows (k0_pay9 X W S) (k0_pay10 i c X W lab Lb) g⌝ ∗ statPts c fullShare g)
            -∗ Kt ⟨⟩))
      ⊢ wp frame (wpE (defs₀ (F := F)) 𝒱₀ (c : Thread nD τ) none) Set.univ
          (cc0_body (F := F) i arg1 harg1 arg2 harg2 arg3 harg3 arg4 harg4 statM harg5 gatM harg6 cc0_scratch2 cc0_scratch3) Kt := by
  simp only [cc0_body_eq_skeleton]; unfold cc0_body_skel
  simp only [dif_neg h4, wp_bind]
  iintro ⟨H1, H2, H3, Hs, Hk⟩
  iapply (part4_later i arg1 harg1 arg2 harg2 arg3 harg3 arg4 harg4 harg5 harg6 h1 h2 h3 c X W lab S Lb f hf)
  isplitl [H1]; · iexact H1
  isplitl [H2]; · iexact H2
  isplitl [H3]; · iexact H3
  isplitl [Hs]; · iexact Hs
  iintro %a %b H
  simp only [Prog.pure_eq_ret, wp_ret]
  imodintro
  iapply Hk; iexact H

/-! The kernel's slices of its semaphore arrays and of the gather buffer. -/
theorem send_sem0 : ((cc0_scratch2.slice (Rect.unit (s := S3) ![0] ![1] inb_S3_S1_0)).squeeze S_ squeezes_S1_S_).sem = sendS 0 := rfl
theorem recv_sem0 : ((cc0_scratch3.slice (Rect.unit (s := S3) ![0] ![1] inb_S3_S1_0)).squeeze S_ squeezes_S1_S_).sem = recvS 0 := rfl
theorem slot_eq0 : (gatM.slice (Rect.unit (s := S3x8x512) ![0, 0, 0] ![1, 8, 512] inb_S3x8x512_S1x8x512_0_0_0) (fun _ => rfl)).squeeze S8x512 squeezes_S1x8x512_S8x512 = slotM 0 := rfl
theorem send_sem1 : ((cc0_scratch2.slice (Rect.unit (s := S3) ![1] ![1] inb_S3_S1_1)).squeeze S_ squeezes_S1_S_).sem = sendS 1 := rfl
theorem recv_sem1 : ((cc0_scratch3.slice (Rect.unit (s := S3) ![1] ![1] inb_S3_S1_1)).squeeze S_ squeezes_S1_S_).sem = recvS 1 := rfl
theorem slot_eq1 : (gatM.slice (Rect.unit (s := S3x8x512) ![1, 0, 0] ![1, 8, 512] inb_S3x8x512_S1x8x512_1_0_0) (fun _ => rfl)).squeeze S8x512 squeezes_S1x8x512_S8x512 = slotM 1 := rfl
theorem send_sem2 : ((cc0_scratch2.slice (Rect.unit (s := S3) ![2] ![1] inb_S3_S1_2)).squeeze S_ squeezes_S1_S_).sem = sendS 2 := rfl
theorem recv_sem2 : ((cc0_scratch3.slice (Rect.unit (s := S3) ![2] ![1] inb_S3_S1_2)).squeeze S_ squeezes_S1_S_).sem = recvS 2 := rfl
theorem slot_eq2 : (gatM.slice (Rect.unit (s := S3x8x512) ![2, 0, 0] ![1, 8, 512] inb_S3x8x512_S1x8x512_2_0_0) (fun _ => rfl)).squeeze S8x512 squeezes_S1x8x512_S8x512 = slotM 2 := rfl

set_option maxHeartbeats 6400000 in
/-- The body at the last grid point: the statistics completed, the barrier, the three copies and their waits, the result. -/
theorem body_last (h1 : ¬ k0_cond1 i = 1#1) (h2 : ¬ condFirst i = 1#1) (h3 : condLater i = 1#1) (h4 : k0_cond4 i = 1#1)
    (K : Dev nD × Fin 7 → ℕ) (c : Dev nD) (X : Vec F S512x1024 .bf16) (W : Vec F S1024x2048 .bf16) (lab : Vec F S512 .i32) (S Lb : Vec F S1x512 .f32) (Y : Vec F S512 .f32)
    (hS : k0_pay9 X W S = accS m c 3) (hL : k0_pay10 i c X W lab Lb = accL m c 3)
    (f : Buf (Elt F) (statM.view.loc (c : Thread nD τ))) (hf : Rows S Lb f) (Wt : Waits sig Unit)
    (Kt : PUnit → sProp 𝕄) :
    iprop(late m K c ∗ owes (c : Thread nD τ) (OR c) Wt
        ∗ ownsB c arg1 X ∗ ownsB c arg2 W ∗ ownsB c arg3 lab ∗ ownsB c arg4 Y ∗ statPts c fullShare f
        ∗ (((∃ W', owes (c : Thread nD τ) 0 W') ∗ ownsB c arg1 X ∗ ownsB c arg2 W ∗ ownsB c arg3 lab ∗ ownsB c arg4 (outAt m c) ∗ Φ₄ c) -∗ Kt ⟨⟩))
      ⊢ wp frame (wpE (defs₀ (F := F)) 𝒱₀ (c : Thread nD τ) none) Set.univ
          (cc0_body (F := F) i arg1 harg1 arg2 harg2 arg3 harg3 arg4 harg4 statM harg5 gatM harg6 cc0_scratch2 cc0_scratch3) Kt := by
  simp only [cc0_body_eq_skeleton]; unfold cc0_body_skel
  simp only [dif_pos h4, wp_bind, k0_part1_eq_skeleton, k0_part2_eq_skeleton, k0_part3_eq_skeleton]
  unfold k0_part1_skel k0_part2_skel k0_part3_skel
  unfold late copyGhost
  iintro ⟨⟨#HR, HaB, HcB, #Hlev, ⟨HaS0, HaR0, HtS0, HtR0, HcR0⟩, ⟨HaS1, HaR1, HtS1, HtR1, HcR1⟩, ⟨HaS2, HaR2, HtS2, HtR2, HcR2⟩⟩, Ho, H1, H2, H3, H4, Hs, Hk⟩
  iapply (part4_later i arg1 harg1 arg2 harg2 arg3 harg3 arg4 harg4 harg5 harg6 h1 h2 h3 c X W lab S Lb f hf)
  isplitl [H1]; · iexact H1
  isplitl [H2]; · iexact H2
  isplitl [H3]; · iexact H3
  isplitl [Hs]; · iexact Hs
  iintro %a %b ⟨H1, H2, H3, ⟨%g, %hg, Hs⟩⟩
  rw [hS, hL] at hg
  simp only [semSignalWord, semWaitWord, Prog.lift, Prog.bind_op, Prog.bind_ret, Prog.pure_eq_ret, Prog.bind_assoc]
  simp only [send_sem0, send_sem1, send_sem2, recv_sem0, recv_sem1, recv_sem2, slot_eq0, slot_eq1, slot_eq2]
  -- the barrier
  iapply (wp_wait_bar m K c (by decide) Wt) $$ [HcB Ho HaB]
  · isplitr; · iexact HR
    isplitl [HcB]; · iexact HcB
    isplitl [Ho]; · iexact Ho
    isplitr; · iexact Hlev
    iexact HaB
  iintro ⟨Ho, HzB, Hg0, Hg1, Hg2⟩
  ihave Hs := (stat_split c g) $$ Hs
  icases Hs with ⟨Hs, Hs0, Hs1, Hs2⟩
  -- the copies
  iapply (wp_copy m K c _ 0 (dev4_eq i c h4) (slotM 0) rfl (sendS 0) (recvS 0) rfl rfl (OR c) (OR1 c) rfl _ g hg) $$ [Hs0 Hg0 Ho HtS0 HtR0]
  · isplitr; · iexact HR
    isplitl [Hs0]; · iexact Hs0
    isplitl [Hg0]; · iexact Hg0
    isplitl [Ho]; · iexact Ho
    isplitl [HtS0]; · iexact HtS0
    iexact HtR0
  iintro ⟨HcS0, Ho⟩
  iapply (wp_copy m K c _ 1 (dev5_eq i c h4) (slotM 1) rfl (sendS 1) (recvS 1) rfl rfl (OR1 c) (OR2 c) rfl _ g hg) $$ [Hs1 Hg1 Ho HtS1 HtR1]
  · isplitr; · iexact HR
    isplitl [Hs1]; · iexact Hs1
    isplitl [Hg1]; · iexact Hg1
    isplitl [Ho]; · iexact Ho
    isplitl [HtS1]; · iexact HtS1
    iexact HtR1
  iintro ⟨HcS1, Ho⟩
  rw [wp_ret]; imodintro
  iapply (wp_copy m K c _ 2 (dev6_eq i c h4) (slotM 2) rfl (sendS 2) (recvS 2) rfl rfl (OR2 c) 0 (by rw [zero_add]; rfl) _ g hg) $$ [Hs2 Hg2 Ho HtS2 HtR2]
  · isplitr; · iexact HR
    isplitl [Hs2]; · iexact Hs2
    isplitl [Hg2]; · iexact Hg2
    isplitl [Ho]; · iexact Ho
    isplitl [HtS2]; · iexact HtS2
    iexact HtR2
  iintro ⟨HcS2, Ho⟩
  -- the waits
  iapply (wp_wait_send m K c 0 (sendS 0) rfl (slotM 0) statM rfl _) $$ [HcS0 Ho HaS0]
  · isplitr; · iexact HR
    isplitl [HcS0]; · iexact HcS0
    isplitl [Ho]; · iexact Ho
    iexact HaS0
  iintro ⟨Ho, HzS0, Hs0⟩
  iapply (wp_wait_recv m K c 0 (recvS 0) rfl statM (slotM 0) rfl _) $$ [HcR0 Ho HaR0]
  · isplitr; · iexact HR
    isplitl [HcR0]; · iexact HcR0
    isplitl [Ho]; · iexact Ho
    iexact HaR0
  iintro ⟨Ho, HzR0, Hg0⟩
  iapply (wp_wait_send m K c 1 (sendS 1) rfl (slotM 1) statM rfl _) $$ [HcS1 Ho HaS1]
  · isplitr; · iexact HR
    isplitl [HcS1]; · iexact HcS1
    isplitl [Ho]; · iexact Ho
    iexact HaS1
  iintro ⟨Ho, HzS1, Hs1⟩
  iapply (wp_wait_recv m K c 1 (recvS 1) rfl statM (slotM 1) rfl _) $$ [HcR1 Ho HaR1]
  · isplitr; · iexact HR
    isplitl [HcR1]; · iexact HcR1
    isplitl [Ho]; · iexact Ho
    iexact HaR1
  iintro ⟨Ho, HzR1, Hg1⟩
  rw [wp_ret]; imodintro
  iapply (wp_wait_send m K c 2 (sendS 2) rfl (slotM 2) statM rfl _) $$ [HcS2 Ho HaS2]
  · isplitr; · iexact HR
    isplitl [HcS2]; · iexact HcS2
    isplitl [Ho]; · iexact Ho
    iexact HaS2
  iintro ⟨Ho, HzS2, Hs2⟩
  iapply (wp_wait_recv m K c 2 (recvS 2) rfl statM (slotM 2) rfl _) $$ [HcR2 Ho HaR2]
  · isplitr; · iexact HR
    isplitl [HcR2]; · iexact HcR2
    isplitl [Ho]; · iexact Ho
    iexact HaR2
  iintro ⟨Ho, HzR2, Hg2⟩
  ihave Hs := (stat_join c g) $$ [Hs Hs0 Hs1 Hs2]
  · isplitl [Hs]; · iexact Hs
    isplitl [Hs0]; · iexact Hs0
    isplitl [Hs1] <;> iassumption
  unfold recvPay
  icases Hg0 with ⟨%g0, %hg0, Hg0⟩
  icases Hg1 with ⟨%g1, %hg1, Hg1⟩
  icases Hg2 with ⟨%g2, %hg2, Hg2⟩
  -- the loads
  iapply (wp_load_stat c row0) $$ Hs; iintro Hs
  iapply (wp_load_stat c row1) $$ Hs; iintro Hs
  iapply (wp_load_slot c 0 0) $$ Hg0; iintro Hg0
  iapply (wp_load_slot c 0 1) $$ Hg0; iintro Hg0
  iapply (wp_load_slot c 1 0) $$ Hg1; iintro Hg1
  iapply (wp_load_slot c 1 1) $$ Hg1; iintro Hg1
  iapply (wp_load_slot c 2 0) $$ Hg2; iintro Hg2
  iapply (wp_load_slot c 2 1) $$ Hg2; iintro Hg2
  rw [hg.1, hg.2, gat_read0 0 _ _ _ hg0, gat_read1 0 _ _ _ hg0, gat_read0 1 _ _ _ hg1, gat_read1 1 _ _ _ hg1,
    gat_read0 2 _ _ _ hg2, gat_read1 2 _ _ _ hg2]
  rw [wp_ret]; imodintro
  iapply (wp_load_owns c arg4) $$ H4; iintro H4
  rw [wp_ret]; imodintro
  iapply (wp_store_owns c arg4) $$ H4; iintro H4
  rw [wp_ret]; imodintro
  rw [wp_ret]; imodintro
  iapply Hk
  isplitl [Ho]; · iexists _; iexact Ho
  isplitl [H1]; · iexact H1
  isplitl [H2]; · iexact H2
  isplitl [H3]; · iexact H3
  isplitl [H4]; · unfold outAt; iexact H4
  unfold Φ₄
  isplitl [Hs]; · iexists _; iexact Hs
  isplitl [Hg0 Hg1 Hg2]
  · isplitl [Hg0]; · iexists _; iexact Hg0
    isplitl [Hg1]; · iexists _; iexact Hg1
    iexists _; iexact Hg2
  isplitl [HzB]; · iexact HzB
  isplitl [HzS0 HzS1 HzS2]
  · isplitl [HzS0]; · iexact HzS0
    isplitl [HzS1] <;> iassumption
  isplitl [HzR0]; · iexact HzR0
  isplitl [HzR1] <;> iassumption

end Parts

end Cert.KernelIdealRun

end
-- ==== Proof.Oblig.lean ====
/-
The pipeline library's body obligation: the kernel body at each of the four grid points, between what the pipeline
hands it and what it must leave.
-/
module

public import proofs.«01_k».proof.Proof.Body

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem before0 (c : Dev nD) (t : Fin cfg0.N) (d) : (dats m ρ 0 c).before 0 t d = xb m c t :=
  ((dats m ρ 0 c).before_in_eq_fetched 0 rfl (fun _ => rfl) (fun _ _ _ => rfl) (fun t => rfl) t d).trans rfl
theorem before1 (c : Dev nD) (t : Fin cfg0.N) (d) : (dats m ρ 0 c).before 1 t d = wb m c t :=
  ((dats m ρ 0 c).before_in_eq_fetched 1 rfl (fun _ => rfl) (fun _ _ _ => rfl) (fun t => rfl) t d).trans rfl
theorem before2 (c : Dev nD) (t : Fin cfg0.N) (d) : (dats m ρ 0 c).before 2 t d = lb m c t :=
  ((dats m ρ 0 c).before_in_eq_fetched 2 rfl (fun _ => rfl) (fun _ _ _ => rfl) (fun t => rfl) t d).trans rfl

theorem tt_0 : tt 0 = t0_0 := Fin.ext rfl
theorem tt_1 : tt 1 = t0_1 := Fin.ext rfl
theorem tt_2 : tt 2 = t0_2 := Fin.ext rfl
theorem tt_3 : tt 3 = t0_3 := Fin.ext rfl

/-! The printed conditions at each grid point. -/
theorem c1_0 : k0_cond1 (grid0.coords t0_0) = 1#1 := by decide
theorem c1_1 : ¬ k0_cond1 (grid0.coords t0_1) = 1#1 := by decide
theorem c1_2 : ¬ k0_cond1 (grid0.coords t0_2) = 1#1 := by decide
theorem c1_3 : ¬ k0_cond1 (grid0.coords t0_3) = 1#1 := by decide
theorem c2_0 : condFirst (grid0.coords t0_0) = 1#1 := by decide
theorem c2_1 : ¬ condFirst (grid0.coords t0_1) = 1#1 := by decide
theorem c2_2 : ¬ condFirst (grid0.coords t0_2) = 1#1 := by decide
theorem c2_3 : ¬ condFirst (grid0.coords t0_3) = 1#1 := by decide
theorem c3_0 : ¬ condLater (grid0.coords t0_0) = 1#1 := by decide
theorem c3_1 : condLater (grid0.coords t0_1) = 1#1 := by decide
theorem c3_2 : condLater (grid0.coords t0_2) = 1#1 := by decide
theorem c3_3 : condLater (grid0.coords t0_3) = 1#1 := by decide
theorem c4_0 : ¬ k0_cond4 (grid0.coords t0_0) = 1#1 := by decide
theorem c4_1 : ¬ k0_cond4 (grid0.coords t0_1) = 1#1 := by decide
theorem c4_2 : ¬ k0_cond4 (grid0.coords t0_2) = 1#1 := by decide
theorem c4_3 : k0_cond4 (grid0.coords t0_3) = 1#1 := by decide

theorem idle_0 : cfg0.idle 3 (cfg0.grid.coords t0_0) = true := by decide
theorem idle_1 : cfg0.idle 3 (cfg0.grid.coords t0_1) = true := by decide
theorem idle_2 : cfg0.idle 3 (cfg0.grid.coords t0_2) = true := by decide
theorem idle_3 : cfg0.idle 3 (cfg0.grid.coords t0_3) = false := by decide
theorem flush_0 : (cfg0.win 3).flush t0_0 = false := Bool.eq_false_iff.mpr fun h => absurd ((flush0_3 t0_0).mp h) (by decide)
theorem flush_1 : (cfg0.win 3).flush t0_1 = false := Bool.eq_false_iff.mpr fun h => absurd ((flush0_3 t0_1).mp h) (by decide)
theorem flush_2 : (cfg0.win 3).flush t0_2 = false := Bool.eq_false_iff.mpr fun h => absurd ((flush0_3 t0_2).mp h) (by decide)

/-- What the body finds at a grid point, and what it leaves: the inputs' blocks as found, the result's buffer at `Z`. -/
def pre (c : Dev nD) (t : Fin cfg0.N) : sProp 𝕄 :=
  iprop(phi m c t.val ∗ (dats m ρ 0 c).owesAt () t.castSucc
    ∗ (∃ d, ownsB c (st0_0 t) ((dats m ρ 0 c).before 0 t d)) ∗ (∃ d, ownsB c (st0_1 t) ((dats m ρ 0 c).before 1 t d))
    ∗ (∃ d, ownsB c (st0_2 t) ((dats m ρ 0 c).before 2 t d)) ∗ (∃ d, ownsB c (st0_3 t) ((dats m ρ 0 c).before 3 t d)))
def post (c : Dev nD) (t : Fin cfg0.N) (Z : sProp 𝕄) : sProp 𝕄 :=
  iprop(phi m c (t.val + 1) ∗ (dats m ρ 0 c).owesAt () t.succ
    ∗ ownsB c (st0_0 t) (xb m c t) ∗ ownsB c (st0_1 t) (wb m c t) ∗ ownsB c (st0_2 t) (lb m c t) ∗ Z)

theorem point0 (c : Dev nD) :
    pre m ρ c t0_0 ⊢ wp frame (wpE (defs₀ (F := F)) 𝒱₀ (c : Thread nD τ) none) Set.univ (bodyAt0 (F := F) t0_0)
      (fun _ => post m ρ c t0_0 iprop(∃ d, ownsB c (st0_3 t0_0) ((dats m ρ 0 c).before 3 t0_0 d))) := by
  unfold pre
  rw [show phi m c (t0_0 : Fin cfg0.N).val = Φ₀ m c from rfl]
  unfold Φ₀ start Dat.owesAt Pipeline.owesWithin
  rw [show (dats m ρ 0 c).owed t0_0.castSucc = O₀ c from rfl]
  iintro ⟨⟨⟨%K, HL, Ht⟩, Hs, Hg⟩, ⟨%Wt, %hW, Ho⟩, ⟨%d0, H1⟩, ⟨%d1, H2⟩, ⟨%d2, H3⟩, H4⟩
  rw [before0, before1, before2]
  unfold late
  icases HL with ⟨#HR, HL⟩
  iapply (body_first m (grid0.coords t0_0) (st0_0 t0_0) _ (st0_1 t0_0) _ (st0_2 t0_0) _ (st0_3 t0_0) _ _ _ c1_0 c2_0 c3_0 c4_0 K c
    (xb m c t0_0) (wb m c t0_0) (lb m c t0_0) Wt)
  isplitr; · iexact HR
  isplitl [Ht]; · iexact Ht
  isplitl [Hg]; · iexact Hg
  isplitl [Ho]; · iexact Ho
  isplitl [H1]; · iexact H1
  isplitl [H2]; · iexact H2
  isplitl [H3]; · iexact H3
  isplitl [Hs]; · iexact Hs
  iintro ⟨Ho, H1, H2, H3, Hs⟩
  unfold post
  rw [show phi m c ((t0_0 : Fin cfg0.N).val + 1) = ΦM m 0 c from rfl]
  unfold ΦM late Dat.owesAt Pipeline.owesWithin
  rw [show (dats m ρ 0 c).owed t0_0.succ = OR c from rfl]
  isplitl [HL Hs]
  · isplitl [HL]
    · iexists K
      isplitr; · iexact HR
      iexact HL
    iexact Hs
  isplitl [Ho]
  · iexists Wt
    isplitr; · ipureintro; exact hW
    iexact Ho
  isplitl [H1]; · iexact H1
  isplitl [H2]; · iexact H2
  isplitl [H3]; · iexact H3
  iexact H4

/-- A middle grid point. -/
theorem pointM (c : Dev nD) (n : ℕ) (t : Fin grid0.N) (ht : tt (n + 1) = t)
    (h1 : ¬ k0_cond1 (grid0.coords t) = 1#1) (h2 : ¬ condFirst (grid0.coords t) = 1#1) (h3 : condLater (grid0.coords t) = 1#1) (h4 : ¬ k0_cond4 (grid0.coords t) = 1#1)
    (hφ : phi m c t.val = ΦM m n c) (hφ' : phi m c (t.val + 1) = ΦM m (n + 1) c)
    (ho : (dats m ρ 0 c).owed (Fin.castSucc (n := cfg0.N) t) = OR c) (ho' : (dats m ρ 0 c).owed (Fin.succ (n := cfg0.N) t) = OR c) :
    pre m ρ c t ⊢ wp frame (wpE (defs₀ (F := F)) 𝒱₀ (c : Thread nD τ) none) Set.univ (bodyAt0 (F := F) t)
      (fun _ => post m ρ c t iprop(∃ d, ownsB c (st0_3 t) ((dats m ρ 0 c).before 3 t d))) := by
  unfold pre
  rw [hφ]
  unfold ΦM Dat.owesAt Pipeline.owesWithin
  rw [ho]
  iintro ⟨⟨HL, ⟨%f, %hf, Hs⟩⟩, ⟨%Wt, %hW, Ho⟩, ⟨%d0, H1⟩, ⟨%d1, H2⟩, ⟨%d2, H3⟩, H4⟩
  rw [before0, before1, before2]
  iapply (body_mid (grid0.coords t) (st0_0 t) _ (st0_1 t) _ (st0_2 t) _ (st0_3 t) _ _ _ h1 h2 h3 h4 c
    (xb m c t) (wb m c t) (lb m c t) (accS m c n) (accL m c n) f hf)
  isplitl [H1]; · iexact H1
  isplitl [H2]; · iexact H2
  isplitl [H3]; · iexact H3
  isplitl [Hs]; · iexact Hs
  iintro ⟨H1, H2, H3, ⟨%g, %hg, Hs⟩⟩
  unfold post
  rw [hφ']
  unfold ΦM Dat.owesAt Pipeline.owesWithin
  rw [ho']
  isplitl [HL Hs]
  · isplitl [HL]; · iexact HL
    iexists g
    isplitr
    · ipureintro; subst ht; exact hg
    iexact Hs
  isplitl [Ho]
  · iexists Wt
    isplitr; · ipureintro; exact hW
    iexact Ho
  isplitl [H1]; · iexact H1
  isplitl [H2]; · iexact H2
  isplitl [H3]; · iexact H3
  iexact H4

theorem point3 (c : Dev nD) :
    pre m ρ c t0_3 ⊢ wp frame (wpE (defs₀ (F := F)) 𝒱₀ (c : Thread nD τ) none) Set.univ (bodyAt0 (F := F) t0_3)
      (fun _ => post m ρ c t0_3 (ownsB c (st0_3 t0_3) (outAt m c))) := by
  unfold pre
  rw [show phi m c (t0_3 : Fin cfg0.N).val = ΦM m 2 c from rfl]
  unfold ΦM Dat.owesAt Pipeline.owesWithin
  rw [show (dats m ρ 0 c).owed t0_3.castSucc = OR c from rfl]
  iintro ⟨⟨⟨%K, HL⟩, ⟨%f, %hf, Hs⟩⟩, ⟨%Wt, %hW, Ho⟩, ⟨%d0, H1⟩, ⟨%d1, H2⟩, ⟨%d2, H3⟩, ⟨%d3, H4⟩⟩
  rw [before0, before1, before2]
  iapply (body_last m (grid0.coords t0_3) (st0_0 t0_3) _ (st0_1 t0_3) _ (st0_2 t0_3) _ (st0_3 t0_3) _ _ _ c1_3 c2_3 c3_3 c4_3 K c
    (xb m c t0_3) (wb m c t0_3) (lb m c t0_3) (accS m c 2) (accL m c 2) _ (by rw [← tt_3]; rfl) (by rw [← tt_3]; rfl) f hf Wt)
  isplitl [HL]; · iexact HL
  isplitl [Ho]; · iexact Ho
  isplitl [H1]; · iexact H1
  isplitl [H2]; · iexact H2
  isplitl [H3]; · iexact H3
  isplitl [H4]; · iexact H4
  isplitl [Hs]; · iexact Hs
  iintro ⟨⟨%W', Ho⟩, H1, H2, H3, H4, HΦ⟩
  unfold post
  rw [show phi m c ((t0_3 : Fin cfg0.N).val + 1) = Φ₄ c from rfl]
  unfold Dat.owesAt Pipeline.owesWithin
  rw [show (dats m ρ 0 c).owed t0_3.succ = 0 from rfl]
  isplitl [HΦ]; · iexact HΦ
  isplitl [Ho]
  · iexists W'
    isplitr; · ipureintro; exact fun _ _ => Or.inl trivial
    iexact Ho
  isplitl [H1]; · iexact H1
  isplitl [H2]; · iexact H2
  isplitl [H3]; · iexact H3
  iexact H4

/-- The library's body obligation on core `c`. -/
theorem body_obligation (c : Dev nD) : BodyObligation (dats (F := F) m ρ 0 c) (defs₀ (F := F)) 𝒱₀ () Set.univ := fun t => by
  rw [bigSep_W0, bigSep_W0]
  rcases fin_N0 t with rfl | rfl | rfl | rfl
  · rw [idle_0, flush_0]; exact point0 m ρ c
  · rw [idle_1, flush_1]; exact pointM m ρ c 0 t0_1 tt_1 c1_1 c2_1 c3_1 c4_1 rfl rfl rfl rfl
  · rw [idle_2, flush_2]; exact pointM m ρ c 1 t0_2 tt_2 c1_2 c2_2 c3_2 c4_2 rfl rfl rfl rfl
  · rw [idle_3]; exact point3 m ρ c

end Cert.KernelIdealRun

end
-- ==== Proof.Launch.lean ====
/-
The launch of the four devices: the seven cells of each device are funded and their invariants allocated for all devices
at once, the tokens dealt around the mesh, and the whole run concluded: it terminates, every array holds what the
pipeline's data say, and every semaphore counter is zero.
-/
module

public import proofs.«01_k».proof.Proof.Oblig
public import Idealize.ShloMosaic.Lib.Ring
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and the duty tokens -/

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: its barrier's three, its sends' and its receives'. -/
abbrev tokOf (cj : Dev nD × Fin 9) : GSem nD τ sig × ℕ × Fin 3 := match cj.2 with
  | 0 => (barCell cj.1, 0, opp 0) | 1 => (barCell cj.1, 0, opp 1) | 2 => (barCell cj.1, 0, opp 2)
  | 3 => (sendCell 0 cj.1, 0, 0) | 4 => (sendCell 1 cj.1, 0, 0) | 5 => (sendCell 2 cj.1, 0, 0)
  | 6 => (recvCell 0 cj.1, 0, 0) | 7 => (recvCell 1 cj.1, 0, 0) | 8 => (recvCell 2 cj.1, 0, 0)
/-- A token's cell, short of the device, and its duty. -/
def tokTag : Fin 9 → SemLoc sig × Fin 3 := fun
  | 0 => (.reg barS, 2) | 1 => (.reg barS, 1) | 2 => (.reg barS, 0)
  | 3 => (.dma (sendS 0), 0) | 4 => (.dma (sendS 1), 0) | 5 => (.dma (sendS 2), 0)
  | 6 => (.dma (recvS 0), 0) | 7 => (.dma (recvS 1), 0) | 8 => (.dma (recvS 2), 0)
theorem tokTag_inj : ∀ j j' : Fin 9, tokTag j = tokTag j' → j = j' := by decide
theorem tokOf_tag (c : Dev nD) (j : Fin 9) : ((tokOf (c, j)).1.2, (tokOf (c, j)).2.2) = tokTag j := by fin_cases j <;> rfl
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    fin_cases j <;> fin_cases j' <;> exact this
  subst h1
  have : j = j' := tokTag_inj j j' (by
    rw [← tokOf_tag c j, ← tokOf_tag c j']
    exact congrArg (fun x : GSem nD τ sig × ℕ × Fin 3 => (x.1.2, x.2.2)) h)
  subst this; rfl
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 (opp 0) ∗ dutyTok ER (barCell c) 0 (opp 1) ∗ dutyTok ER (barCell c) 0 (opp 2)
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)
/-- The tokens of the duties device `c` pays. -/
def payToks (c : Dev nD) : sProp 𝕄 :=
  iprop(dutyTok ER (barCell (peer 0 c)) 0 (opp 0) ∗ dutyTok ER (barCell (peer 1 c)) 0 (opp 1) ∗ dutyTok ER (barCell (peer 2 c)) 0 (opp 2)
    ∗ dutyTok ER (sendCell 0 c) 0 0 ∗ dutyTok ER (sendCell 1 c) 0 0 ∗ dutyTok ER (sendCell 2 c) 0 0
    ∗ dutyTok ER (recvCell 0 (peer 0 c)) 0 0 ∗ dutyTok ER (recvCell 1 (peer 1 c)) 0 0 ∗ dutyTok ER (recvCell 2 (peer 2 c)) 0 0)
/-- Its positions at its own cells. -/
def poss (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- What the launch element deals device `c`; -/
def G (c : Dev nD) : sProp 𝕄 :=
  iprop((bigSep Finset.univ fun k : Fin 7 => roundState ER (exRd m) (kcell (c, k)) 0)
    ∗ (bigSep Finset.univ fun k : Fin 7 => iprop(atPos ER (kcell (c, k)) 0 ∅ 0 ∗ reached ER (kcell (c, k)) 0)) ∗ toks c)
/-- what the step over all devices makes of it. -/
def G' (c : Dev nD) : sProp 𝕄 := iprop(∃ K, records m K ∗ poss c ∗ payToks c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 7 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin9]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

omit [FloatOps F] in
/-- Every barrier token and every receive token goes to the device that pays it. -/
theorem toks_around : (bigSep Finset.univ fun c : Dev nD => (toks c : sProp 𝕄)) ⊢ bigSep Finset.univ fun c : Dev nD => payToks c := by
  unfold toks payToks
  simp only [bigSep_sep']
  rw [bigSep_univ_equiv (around 0) (fun c : Dev nD => (dutyTok ER (barCell c) 0 (opp 0) : sProp 𝕄)),
    bigSep_univ_equiv (around 1) (fun c : Dev nD => (dutyTok ER (barCell c) 0 (opp 1) : sProp 𝕄)),
    bigSep_univ_equiv (around 2) (fun c : Dev nD => (dutyTok ER (barCell c) 0 (opp 2) : sProp 𝕄)),
    bigSep_univ_equiv (around 0) (fun c : Dev nD => (dutyTok ER (recvCell 0 c) 0 0 : sProp 𝕄)),
    bigSep_univ_equiv (around 1) (fun c : Dev nD => (dutyTok ER (recvCell 1 c) 0 0 : sProp 𝕄)),
    bigSep_univ_equiv (around 2) (fun c : Dev nD => (dutyTok ER (recvCell 2 c) 0 0 : sProp 𝕄))]
  exact Entails.rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) : iprop(records m K ∗ poss c ∗ payToks c) ⊢ G' m c := by
  unfold G'
  iintro H
  iexists K; iexact H

theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (exRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (exRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ iprop(poss c ∗ payToks c) from Entails.of_eq (by unfold poss; rw [bigSep_fin7])))
    isplitl [Hat]; · iexact Hat
    iexact Htk

/-- The step over all devices: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem cred_bar (j : Fin 3) (c : Dev nD) :
    (Pipeline.launchCred (fun d => tallyAt (barCell (peer j d)) () 1) c : sProp 𝕄) ⊢ cred (tallyAt (barCell c) () 1) :=
  Pipeline.launchCred_tallyAt (.reg barS) (peer j) (peer (opp j)) (opp_peer j) (peer_opp j) () 1 c
omit [FloatOps F] in
theorem cred_recv (j : Fin 3) (c : Dev nD) :
    (Pipeline.launchCred (fun d => tallyAt (recvCell j (peer j d)) () N) c : sProp 𝕄) ⊢ cred (tallyAt (recvCell j c) () N) :=
  Pipeline.launchCred_tallyAt (.dma (recvS j)) (peer j) (peer (opp j)) (opp_peer j) (peer_opp j) () N c

omit [FloatOps F] in
/-- What all devices owe device `c`: a barrier unit from each of the other three, and three copies. -/
theorem creds (c : Dev nD) :
    (Pipeline.launchCred O₀ c : sProp 𝕄) ⊢ iprop(cred (tallyAt (barCell c) () 3)
      ∗ cred (tallyAt (recvCell 0 c) () N) ∗ cred (tallyAt (recvCell 1 c) () N) ∗ cred (tallyAt (recvCell 2 c) () N)) := by
  rw [show (O₀ : Dev nD → CellTallies nD τ sig Unit) = fun d => OB1 d + tallyAt (barCell (peer 0 d)) () 1 from rfl, Pipeline.launchCred_add,
    show (OB1 : Dev nD → CellTallies nD τ sig Unit) = fun d => OB2 d + tallyAt (barCell (peer 1 d)) () 1 from rfl, Pipeline.launchCred_add,
    show (OB2 : Dev nD → CellTallies nD τ sig Unit) = fun d => OR d + tallyAt (barCell (peer 2 d)) () 1 from rfl, Pipeline.launchCred_add,
    show (OR : Dev nD → CellTallies nD τ sig Unit) = fun d => OR1 d + tallyAt (recvCell 0 (peer 0 d)) () N from rfl, Pipeline.launchCred_add,
    show (OR1 : Dev nD → CellTallies nD τ sig Unit) = fun d => OR2 d + tallyAt (recvCell 1 (peer 1 d)) () N from rfl, Pipeline.launchCred_add,
    show (OR2 : Dev nD → CellTallies nD τ sig Unit) = fun d => tallyAt (recvCell 2 (peer 2 d)) () N from rfl]
  iintro ⟨⟨⟨⟨⟨R2, R1⟩, R0⟩, B2⟩, B1⟩, B0⟩
  ihave R2 := (cred_recv (F := F) 2 c) $$ R2
  ihave R1 := (cred_recv (F := F) 1 c) $$ R1
  ihave R0 := (cred_recv (F := F) 0 c) $$ R0
  ihave B2 := (cred_bar (F := F) 2 c) $$ B2
  ihave B1 := (cred_bar (F := F) 1 c) $$ B1
  ihave B0 := (cred_bar (F := F) 0 c) $$ B0
  isplitl [B0 B1 B2]
  · rw [show (tallyAt (barCell c) () 3 : CellTallies nD τ sig Unit) = tallyAt (barCell c) () 1 + tallyAt (barCell c) () 1 + tallyAt (barCell c) () 1 from by
      rw [tallyAt_add, tallyAt_add]]
    iapply (cred_add _ _).2
    isplitl [B0 B1]
    · iapply (cred_add _ _).2
      isplitl [B0] <;> iassumption
    iexact B2
  isplitl [R0]; · iexact R0
  isplitl [R1] <;> iassumption

/-! ## The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H0, H1, H2⟩
  imodintro
  unfold start G' poss payToks
  icases HG with ⟨%K, HR, ⟨PB, S0, S1, S2, R0, R1, R2⟩, T0, T1, T2, TS0, TS1, TS2, TR0, TR1, TR2⟩
  isplitl
  · iexists K
    isplitr [T0 T1 T2]
    · unfold late copyGhost
      isplitl [HR]; · iexact HR
      isplitl [PB]; · iexact PB
      isplitl [HB]; · iexact HB
      isplitl [Hlev]; · iexact Hlev
      isplitl [S0 R0 TS0 TR0 H0]
      · isplitl [S0]; · iexact S0
        isplitl [R0]; · iexact R0
        isplitl [TS0]; · iexact TS0
        isplitl [TR0] <;> iassumption
      isplitl [S1 R1 TS1 TR1 H1]
      · isplitl [S1]; · iexact S1
        isplitl [R1]; · iexact R1
        isplitl [TS1]; · iexact TS1
        isplitl [TR1] <;> iassumption
      isplitl [S2]; · iexact S2
      isplitl [R2]; · iexact R2
      isplitl [TS2]; · iexact TS2
      isplitl [TR2] <;> iassumption
    · unfold barToks
      isplitl [T0]; · iexact T0
      isplitl [T1] <;> iassumption
  · iempintro

omit [FloatOps F] in
theorem statPts_eq (c : Dev nD) (f : Buf (Elt F) (statM.view.loc (c : Thread nD τ))) :
    statPts c fullShare f = ((c : Thread nD τ).loc cc0_scratch0 ↦{fullShare} f : sProp 𝕄) := by
  unfold statPts; rw [View.set_whole]

theorem slot_disj (k k' : Fin 3) (h : k ≠ k') : Disjoint (slotM k).view.set (slotM k').view.set := by
  rw [slot_set, slot_set]
  exact Ring.lead_disjoint (s := S3x8x512) (0 : Fin 3) 1 (fun k : Fin 3 => ![k.val, 0, 0]) S1x8x512.size slot_inb (by decide) rfl k k' h
theorem slot_cover : Finset.univ.biUnion (fun k : Fin 3 => (slotM k).view.set) = (Finset.univ : Finset S3x8x512.Idx) := by
  refine (Finset.biUnion_congr rfl fun k _ => slot_set k).trans ?_
  exact Ring.lead_cover (s := S3x8x512) (0 : Fin 3) 1 (fun k : Fin 3 => ![k.val, 0, 0]) S1x8x512.size slot_inb (by decide) (by decide) rfl (by decide) rfl

omit [FloatOps F] in
/-- The gather buffer is its three slots; -/
theorem gather_split (c : Dev nD) :
    iprop(∃ f : Buf (Elt F) ((c : Thread nD τ).loc cc0_scratch1), ((c : Thread nD τ).loc cc0_scratch1) ↦{fullShare} f)
      ⊢ iprop((∃ f, slotPts (F := F) 0 c f) ∗ (∃ f, slotPts (F := F) 1 c f) ∗ (∃ f, slotPts (F := F) 2 c f)) := by
  iintro ⟨%f, H⟩
  ihave H := (Entails.of_eq ((Ring.pointsTo_blocks (ℓ := (c : Thread nD τ).loc cc0_scratch1) (fun k : Fin 3 => (slotM k).view.set) slot_disj slot_cover f).trans (bigSep_three (F := F) _))) $$ H
  icases H with ⟨H0, H1, H2⟩
  isplitl [H0]; · iexists f; unfold slotPts; iexact H0
  isplitl [H1]; · iexists f; unfold slotPts; iexact H1
  iexists f; unfold slotPts; iexact H2
omit [FloatOps F] in
/-- and back. -/
theorem gather_join (c : Dev nD) (f₀ : Buf (Elt F) ((c : Thread nD τ).loc cc0_scratch1)) :
    iprop((∃ f, slotPts (F := F) 0 c f) ∗ (∃ f, slotPts (F := F) 1 c f) ∗ (∃ f, slotPts (F := F) 2 c f))
      ⊢ iprop(∃ f : Buf (Elt F) ((c : Thread nD τ).loc cc0_scratch1), ((c : Thread nD τ).loc cc0_scratch1) ↦{fullShare} f) := by
  iintro ⟨H0, H1, H2⟩
  unfold slotPts
  iapply (Ring.pointsTo_blocks_join_exists (ℓ := (c : Thread nD τ).loc cc0_scratch1) (fun k : Fin 3 => (slotM k).view.set) slot_disj slot_cover f₀)
  iapply (Entails.of_eq (bigSep_three (F := F) _).symm)
  isplitl [H0]; · iexact H0
  isplitl [H1]; · iexact H1
  iexact H2

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩, Hg⟩
  isplitl [Hs]; · iexact Hs
  isplitl [Hr]
  · iexists f; rw [statPts_eq]; iexact Hr
  iapply (gather_split (F := F) c); iexact Hg

theorem phi4_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₄ c from rfl, scopedRest0_eq, ownSems0_eq, unscopedSems0_eq]
  unfold Φ₄
  iintro ⟨⟨%f, Hs⟩, Hg, HB, ⟨S0, S1, S2⟩, ⟨R0, R1, R2⟩⟩
  isplitl [HB]; · iexact HB
  isplitl [S0 S1 S2 R0 R1 R2]
  · isplitl [S0]; · iexact S0
    isplitl [S1]; · iexact S1
    isplitl [S2]; · iexact S2
    isplitl [R0]; · iexact R0
    isplitl [R1] <;> iassumption
  isplitl [Hs]
  · iexists f; rw [← statPts_eq]; iexact Hs
  iapply (gather_join (F := F) c (m ((c : Thread nD τ).loc cc0_scratch1))); iexact Hg

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _ | _ | _ | _, ht⟩
      · exact Or.inl rfl
      · exact Or.inr (Or.inl rfl)
      · exact Or.inr (Or.inl rfl)
      · exact Or.inr (Or.inl rfl)
      · exact Or.inr (Or.inr rfl))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the four devices, for any float values, from any memory with zero counters: every weakly fair execution of `main`
    terminates, and every final state has each array at the contents the pipeline's data give and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi4_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold what they held. -/
theorem finalA_x (c : Dev nD) : finalA m ρ c (0 : Fin 4) = m (win0_0.arr.view.loc (c : Thread nD τ)) :=
  (dats (F := F) m ρ 0 c).arrAt_in (0 : Fin 4) rfl _
theorem finalA_w (c : Dev nD) : finalA m ρ c (1 : Fin 4) = m (win0_1.arr.view.loc (c : Thread nD τ)) :=
  (dats (F := F) m ρ 0 c).arrAt_in (1 : Fin 4) rfl _
theorem finalA_lab (c : Dev nD) : finalA m ρ c (2 : Fin 4) = m (win0_2.arr.view.loc (c : Thread nD τ)) :=
  (dats (F := F) m ρ 0 c).arrAt_in (2 : Fin 4) rfl _

end Cert.KernelIdealRun

end
-- ==== Proof.Frames.lean ====
/-
The frames: each program terminates without a fault, leaves its arguments as they were, and ends with every semaphore
counter at zero.
-/
module

public import proofs.«01_k».proof.Defs
public import proofs.«01_k».proof.Proof.Launch
public import proofs.«01_k».proof.Proof.LaunchK
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed runs, leaves its arguments unchanged and ends with every counter at zero; -/
theorem frame_Kernel : Cert.quiescent_Kernel (hKernel := Cert.Kernel.Gen.facts) := fun m g _ =>
  (θ_run _ _ _).mono (fun r h => ⟨fun c =>
    ⟨(h.1 c 0).trans (Cert.KernelRun.finalA_x m g c), (h.1 c 1).trans (Cert.KernelRun.finalA_w m g c),
      (h.1 c 2).trans (Cert.KernelRun.finalA_lab m g c)⟩, h.2⟩) (Cert.KernelRun.run_main m g)

/-- so does the kernel at exact arithmetic, -/
theorem frame_KernelIdeal : Cert.quiescent_KernelIdeal (hKernelIdeal := Cert.KernelIdeal.Gen.facts) := fun m g _ =>
  (θ_run _ _ _).mono (fun r h => ⟨fun c =>
    ⟨(h.1 c 0).trans (Cert.KernelIdealRun.finalA_x m g c), (h.1 c 1).trans (Cert.KernelIdealRun.finalA_w m g c),
      (h.1 c 2).trans (Cert.KernelIdealRun.finalA_lab m g c)⟩, h.2⟩) (Cert.KernelIdealRun.run_main m g)

/-- and the reference. -/
theorem frame_ReferenceIdeal : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run m g)

end Cert.Proof

end
-- ==== Proof.PreValue.lean ====
/-
What the precondition says of one device's blocks: the entries of `x` and of the device's part of `W` are real, and the
labels are column numbers.
-/
module

public import proofs.«01_k».proof.Proof.Gen.Pre_in_range_KernelIdeal
public import Idealize.ShloMosaic.PureOps.Ideal.Laws
public import Idealize.ShloMosaic.Lib.ReduceAll
public import Idealize.ShloMosaic.Lib.ValueIdx
public import Idealize.ShloMosaic.Lib.StableHlo.Predicate

@[expose] public section

noncomputable section

namespace Cert.PreValue

open Cert.Pre_in_range_KernelIdeal Cert.Pre_in_range_KernelIdeal.Gen
open Idealize.ShloMosaic Idealize.ShloMosaic.ValueIdx

/-- Both parts of a conjunction that holds. -/
theorem andi_eq_one {a b : BitVec 1} (h : IntOp.andi a b = 1#1) : a = 1#1 ∧ b = 1#1 := by
  revert h; revert a b; decide

/-- An extended real whose absolute value is below `⊤` is a real. -/
theorem real_of_abs_lt (v : EReal) (h : max v (-v) < ⊤) : ∃ a : ℝ, v = a := by
  induction v with
  | bot => simp at h
  | top => simp at h
  | coe a => exact ⟨a, rfl⟩

theorem ofBits_inf_bf16 : Ideal.ofBits .bf16 0x7F80#16 = ⊤ := by simp [Ideal.ofBits, Ideal.ieee]

/-- A comparison `|v| < ∞` that holds makes `v` a real. -/
theorem real_of_cmp (v : Ideal .bf16) (h : FloatOps.cmpf .olt (FloatOps.hostAbsf v) (FloatOps.ofBits .bf16 0x7F80#16) = 1#1) :
    ∃ a : ℝ, v = (a : EReal) := by
  refine real_of_abs_lt v ?_
  rw [Ideal.hostAbsf_def, Ideal.absf_def, Ideal.ofBits_def, ofBits_inf_bf16] at h
  exact of_decide_eq_true (StableHlo.Predicate.ofBool_eq_one_iff _ |>.1 h)

/-- A word that is at least 0 and below 32768, read signed, is a column number. -/
theorem label_lt (l : BitVec 32) (h1 : IntOp.cmpi .sge l 0#32 = 1#1) (h2 : IntOp.cmpi .slt l 32768#32 = 1#1) : l.toNat < 32768 := by
  have g1 : (0#32).sle l = true := (StableHlo.Predicate.ofBool_eq_one_iff _).1 h1
  have g2 : l.slt 32768#32 = true := (StableHlo.Predicate.ofBool_eq_one_iff _).1 h2
  rw [BitVec.sle_eq_decide, decide_eq_true_eq] at g1
  rw [BitVec.slt_eq_decide, decide_eq_true_eq] at g2
  have e0 : (0#32).toInt = 0 := rfl
  have e1 : (32768#32).toInt = 32768 := rfl
  have el : l.toInt = if 2 * l.toNat < 2 ^ 32 then (l.toNat : ℤ) else (l.toNat : ℤ) - (2 ^ 32 : ℕ) := BitVec.toInt_eq_toNat_cond l
  have hl := l.isLt
  split at el <;> omega

instance : Subsingleton S_.Idx := ⟨fun a b => by rw [eq_ix0 a, eq_ix0 b]⟩

/-- What the precondition says of the arrays it reads. -/
theorem of_pre (x : FVec Ideal S512x1024 .bf16) (W : FVec Ideal S1024x8192 .bf16) (lab : IVec S512 32)
    (h : fn (F := Ideal) x W lab = fun _ => 1#1) :
    (∀ i, ∃ a : ℝ, x i = (a : EReal)) ∧ (∀ i, ∃ a : ℝ, W i = (a : EReal)) ∧ ∀ i, (lab i).toNat < 32768 := by
  have h0 := congrFun h ix0
  unfold fn fn_part1 at h0
  obtain ⟨h0, h4⟩ := andi_eq_one h0
  obtain ⟨h0, h3⟩ := andi_eq_one h0
  obtain ⟨h1, h2⟩ := andi_eq_one h0
  refine ⟨fun i => real_of_cmp _ ?_, fun i => real_of_cmp _ ?_, fun i => ?_⟩
  · exact Host.reduce_andi_all _ _ _ _ _ h1 i
  · exact Host.reduce_andi_all _ _ _ _ _ h2 i
  · have g3 : IntOp.cmpi .sge (lab i) 0#32 = 1#1 := Host.reduce_andi_all _ _ _ _ _ h3 i
    have g4 : IntOp.cmpi .slt (lab i) 32768#32 = 1#1 := Host.reduce_andi_all _ _ _ _ _ h4 i
    exact label_lt _ g3 g4

end Cert.PreValue

end
-- ==== Proof.Spec.lean ====
/-
The mathematics of the distributed cross entropy, over extended reals and naming no program.

A row of 32768 logits `z` and a label `l` have the loss `log (∑ exp z) − z l`. Two facts carry the proof: the
columns may be summed device by device and chunk by chunk, and, where the logits are real, the row's maximum may be
taken out of the logarithm.
-/
module

public import Idealize.ShloMosaic.PureOps.Ideal
public import Idealize.ShloMosaic.PureOps.Ideal.Laws
public import Idealize.ShloMosaic.Lib.ValueIdx

@[expose] public section

noncomputable section

namespace Cert.Spec

open Idealize.ShloMosaic Idealize.ShloMosaic.ValueIdx

/-- The logit of row `r` and column `v`: the dot product of a row of `x` and a column of `W`. -/
def logit (x : (⟨2, ![512, 1024]⟩ : Shape).Idx → EReal) (W : (⟨2, ![1024, 32768]⟩ : Shape).Idx → EReal)
    (r : Fin 512) (v : Fin 32768) : EReal :=
  ∑ k : Fin 1024, x (ix2 r k) * W (ix2 k v)

/-- The loss of a row of logits at a label. -/
def loss (z : Fin 32768 → EReal) (l : Fin 32768) : EReal := Ideal.log (∑ v, Ideal.exp (z v)) - z l

set_option backward.proofsInPublic true in
/-- Column `j` of chunk `t` of device `c`. -/
def col (c t : Fin 4) (j : Fin 2048) : Fin 32768 := ⟨8192 * c.val + 2048 * t.val + j.val, by omega⟩

/-- Every column is one column of one chunk of one device. -/
def colEquiv : (Fin 4 × Fin 4) × Fin 2048 ≃ Fin 32768 where
  toFun p := col p.1.1 p.1.2 p.2
  invFun v := ((⟨v.val / 8192, by omega⟩, ⟨v.val % 8192 / 2048, by omega⟩), ⟨v.val % 2048, by omega⟩)
  left_inv := by
    rintro ⟨⟨c, t⟩, j⟩
    refine Prod.ext (Prod.ext (Fin.ext ?_) (Fin.ext ?_)) (Fin.ext ?_) <;> simp only [col] <;> omega
  right_inv v := Fin.ext (by simp only [col]; omega)

/-- Summing device by device, chunk by chunk and column by column sums over all the columns. -/
theorem sum_col (f : Fin 32768 → EReal) : ∑ c, ∑ t, ∑ j, f (col c t j) = ∑ v, f v := by
  rw [← Equiv.sum_comp colEquiv f, Fintype.sum_prod_type, Fintype.sum_prod_type]
  rfl

/-- A sum that keeps one column's term is that term. -/
theorem sum_pick (z : Fin 32768 → EReal) (l : Fin 32768) : (∑ v, if v = l then z v else 0) = z l := by
  rw [Finset.sum_ite_eq' Finset.univ l z, if_pos (Finset.mem_univ l)]

/-- A finite sum of reals, taken over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logits of finite operands are real. -/
theorem logit_real (x : (⟨2, ![512, 1024]⟩ : Shape).Idx → EReal) (W : (⟨2, ![1024, 32768]⟩ : Shape).Idx → EReal)
    (hx : ∀ i, ∃ a : ℝ, x i = a) (hW : ∀ i, ∃ a : ℝ, W i = a) (r : Fin 512) (v : Fin 32768) :
    ∃ a : ℝ, logit x W r v = a := by
  choose fx hfx using hx
  choose fW hfW using hW
  refine ⟨∑ k : Fin 1024, fx (ix2 r k) * fW (ix2 k v), ?_⟩
  rw [coe_sum]
  exact Finset.sum_congr rfl fun k _ => by rw [hfx, hfW, EReal.coe_mul]

/-- The fold of `max` from `⊥` over a nonempty row of reals is a real. -/
theorem fold_max_real {ι : Type} [Fintype ι] [Nonempty ι] (z : ι → EReal) (hz : ∀ v, ∃ a : ℝ, z v = a) :
    ∃ a : ℝ, (Finset.univ : Finset ι).fold max ⊥ z = a := by
  have hle : (Finset.univ : Finset ι).fold max ⊥ z ≠ ⊤ := by
    refine ne_of_lt ((Finset.fold_max_lt ⊤).2 ⟨bot_lt_top, fun v _ => ?_⟩)
    obtain ⟨a, ha⟩ := hz v
    rw [ha]; exact EReal.coe_lt_top a
  have hge : (Finset.univ : Finset ι).fold max ⊥ z ≠ ⊥ := by
    obtain ⟨i⟩ := ‹Nonempty ι›
    obtain ⟨a, ha⟩ := hz i
    refine ne_of_gt ((Finset.lt_fold_max ⊥).2 (Or.inr ⟨i, Finset.mem_univ _, ?_⟩))
    rw [ha]; exact EReal.bot_lt_coe a
  exact ⟨_, (EReal.coe_toReal hle hge).symm⟩

/-- A real may be taken out of the logarithm of a sum of exponentials of real logits. -/
theorem log_sum_exp_shift {ι : Type} [Fintype ι] [Nonempty ι] (z : ι → EReal) (hz : ∀ v, ∃ a : ℝ, z v = a) (m : ℝ) :
    (m : EReal) + Ideal.log (∑ v, Ideal.exp (z v - (m : EReal))) = Ideal.log (∑ v, Ideal.exp (z v)) := by
  choose f hf using hz
  have hpos : 0 < ∑ v, Real.exp (f v) := Finset.sum_pos (fun v _ => Real.exp_pos _) Finset.univ_nonempty
  have e1 : (∑ v, Ideal.exp (z v)) = ((∑ v, Real.exp (f v) : ℝ) : EReal) := by
    rw [coe_sum]
    exact Finset.sum_congr rfl fun v _ => by rw [hf, Ideal.exp_coe]
  have e2 : (∑ v, Ideal.exp (z v - (m : EReal))) = (((∑ v, Real.exp (f v)) * Real.exp (-m) : ℝ) : EReal) := by
    rw [Finset.sum_mul, coe_sum]
    exact Finset.sum_congr rfl fun v _ => by rw [hf, ← EReal.coe_sub, Ideal.exp_coe, sub_eq_add_neg, Real.exp_add]
  rw [e1, e2, Ideal.log_coe, Ideal.log_coe, if_neg (not_le.2 hpos), if_neg (not_le.2 (mul_pos hpos (Real.exp_pos _))),
    Real.log_mul hpos.ne' (Real.exp_pos _).ne', Real.log_exp, ← EReal.coe_add]
  congr 1
  ring

end Cert.Spec

end
-- ==== Proof.RefValue.lean ====
/-
What the reference computes: on finite `x` and `W` and labels that are column numbers, entry `r` of its result is the
loss of row `r` of the logits at the row's label.
-/
module

public import proofs.«01_k».proof.Proof.Gen.ReferenceIdeal.Read
public import proofs.«01_k».proof.Proof.Spec
public import Idealize.ShloMosaic.Lib.ValueLayout
public import Idealize.ShloMosaic.Lib.StableHlo.Predicate

@[expose] public section

noncomputable section

namespace Cert.RefValue

open Cert.ReferenceIdeal Cert.ReferenceIdeal.Gen Cert.ReferenceIdeal.Read Cert.Spec
open Idealize.ShloMosaic Idealize.ShloMosaic.ValueIdx

variable (x : (⟨S512x1024, .bf16⟩ : BufTy).Contents (Elt Ideal)) (W : (⟨S1024x32768, .bf16⟩ : BufTy).Contents (Elt Ideal))
  (lab : (⟨S512, .i32⟩ : BufTy).Contents (Elt Ideal))

/-- The matrix product's entry is the logit. -/
theorem dot_apply (r : Fin 512) (v : Fin 32768) : val_main_v0 (F := Ideal) x W (ix2 r v) = logit x W r v := by
  rw [val_main_v0_apply]
  refine Finset.sum_congr rfl fun k _ => ?_
  congr 2 <;> funext a <;> match a with
    | ⟨0, _⟩ => rfl
    | ⟨1, _⟩ => rfl

theorem ofBits_neg_inf_f32 : Ideal.ofBits .f32 0xFF800000#32 = ⊥ := by simp [Ideal.ofBits, Ideal.ieee]

/-- The row maximum is a real. -/
theorem max_real (hx : ∀ i, ∃ a : ℝ, x i = (a : EReal)) (hW : ∀ i, ∃ a : ℝ, W i = (a : EReal)) (r : Fin 512) :
    ∃ a : ℝ, val_main_v1 (F := Ideal) x W (ix1 r) = (a : EReal) := by
  have h : (S512x32768 : Shape).Reduces [1] S512 := by decide
  unfold val_main_v1
  rw [Host.reduce_eq_fold_single FloatOps.maximumf _ _ reducesTo_S512x32768_S512_d1 h h_S_]
  have e : val_main_v0 (F := Ideal) x W ∘ h.lift (ix1 r) = fun v : Fin 32768 => logit x W r v := funext fun v => by
    refine Eq.trans (congrArg (val_main_v0 (F := Ideal) x W) (?_ : h.lift (ix1 r) v = ix2 r v)) (dot_apply x W r v)
    funext a; match a with
    | ⟨0, _⟩ => rfl
    | ⟨1, _⟩ => rfl
  obtain ⟨a, ha⟩ := fold_max_real (fun v : Fin 32768 => logit x W r v) (fun v => logit_real x W hx hW r v)
  refine ⟨a, Eq.trans ?_ ha⟩
  rw [val_main_cst_apply, Ideal.ofBits_def, ofBits_neg_inf_f32]
  exact congrArg (fun f => Finset.fold max (⊥ : EReal) f (Finset.univ : Finset (Fin 32768))) e

/-- The logarithm of the row's summed exponentials. -/
theorem lse_apply (hx : ∀ i, ∃ a : ℝ, x i = (a : EReal)) (hW : ∀ i, ∃ a : ℝ, W i = (a : EReal)) (r : Fin 512) :
    val_main_v10 (F := Ideal) x W (ix1 r) = Ideal.log (∑ v, Ideal.exp (logit x W r v)) := by
  obtain ⟨m, hm⟩ := max_real x W hx hW r
  have hv (v : Fin 32768) : val_main_v5 (F := Ideal) x W (idx_main_v6 (ix1 r) v) = Ideal.exp (logit x W r v - (m : EReal)) := by
    rw [val_main_v5_apply, val_main_v4_apply, val_main_v3_apply, val_main_v2_apply, Ideal.hostUnary_exp_def, Ideal.subf_def,
      show idx_main_v6 (ix1 r) v = ix2 r v from funext fun a => by match a with
        | ⟨0, _⟩ => rfl
        | ⟨1, _⟩ => rfl,
      dot_apply, show idx_main_v2 (idx_main_v3 (ix2 r v)) = ix1 r from funext fun a => by match a with
        | ⟨0, _⟩ => rfl, hm]
  rw [val_main_v10_apply, val_main_v9_apply, val_main_v8_apply, val_main_v7_apply, val_main_v2_apply,
    show idx_main_v2 (idx_main_v10 (ix1 r)) = ix1 r from funext fun a => by match a with
      | ⟨0, _⟩ => exact Fin.ext (Nat.div_one _),
    show idx_main_v7 (idx_main_v10 (ix1 r)) = ix1 r from funext fun a => by match a with
      | ⟨0, _⟩ => exact Fin.ext (Nat.div_one _),
    hm, val_main_v6_apply, val_main_cst_0_apply, Ideal.ofBits_def, Ideal.ofBits_zero_f32, zero_add, Ideal.hostUnary_log_def, Ideal.addf_def,
    Finset.sum_congr rfl fun v _ => hv v]
  exact log_sum_exp_shift (fun v => logit x W r v) (fun v => logit_real x W hx hW r v) m

/-- A word below 2³¹ is not negative, so the reference leaves it as it is. -/
theorem wrap (l a : BitVec 32) (hl : l.toNat < 2 ^ 31) : Scalar.select (IntOp.cmpi .slt l 0#32) a l = l := by
  have h : IntOp.cmpi .slt l 0#32 = 0#1 := eq_zero_of_ne_one fun h => by
    have := (StableHlo.Predicate.slt_iff_toNat hl (by decide)).1 h
    exact Nat.not_lt_zero _ this
  rw [h]; rfl

/-- The row numbers and the labels, side by side. -/
theorem pair_row (r : Fin 512) : val_main_v24 (F := Ideal) lab (ix2 r (0 : Fin 2)) = BitVec.ofNat 32 r.val := by
  unfold val_main_v24
  rw [concatenate_pair_apply_left (t := S512x2) (s₁ := S512x1) (s₂ := S512x1) 1 _ _ _ _ rfl (ix2 r (0 : Fin 1)) (fun b => by
    match b with
    | ⟨0, _⟩ => rfl
    | ⟨1, _⟩ => rfl), val_main_v22_apply, val_main_v16_apply, val_main_v13_apply, val_main_v12_apply, val_main_c_apply]
  have hr := r.isLt
  exact wrap _ _ (by rw [val_main_v11_apply]; show (BitVec.ofNat 32 r.val).toNat < _; rw [BitVec.toNat_ofNat]; omega)

theorem pair_label (r : Fin 512) (hl : (lab (ix1 r)).toNat < 32768) :
    val_main_v24 (F := Ideal) lab (ix2 r (1 : Fin 2)) = lab (ix1 r) := by
  unfold val_main_v24
  rw [concatenate_pair_apply_right (t := S512x2) (s₁ := S512x1) (s₂ := S512x1) 1 _ _ _ _ rfl rfl (ix2 r (0 : Fin 1)) (fun b hb => by
    match b with
    | ⟨0, _⟩ => rfl
    | ⟨1, _⟩ => exact absurd rfl hb) rfl, val_main_v23_apply, val_main_v21_apply, val_main_v18_apply, val_main_v17_apply, val_main_c_2_apply,
    show idx_main_v23 (ix2 r (0 : Fin 1)) = ix1 r from funext fun a => by match a with
      | ⟨0, _⟩ => rfl]
  exact wrap _ _ (by omega)

/-- The gather reads the label's logit. -/
theorem gather_apply (r : Fin 512) (hl : (lab (ix1 r)).toNat < 32768) :
    val_main_v25 (F := Ideal) x W lab (ix1 r) = logit x W r ⟨(lab (ix1 r)).toNat, hl⟩ := by
  have hr := r.isLt
  rw [← dot_apply]
  unfold val_main_v25 Host.gather
  refine congrArg (val_main_v0 (F := Ideal) x W) (funext fun a => Fin.ext ?_)
  set d := gather_S512x32768_S512x2_S512_n_01_n_n_01_1_11
  show d.start (ix1 r) (val_main_v24 (F := Ideal) lab) a + d.batchCoord (ix1 r) a + d.offCoord (ix1 r) a = _
  have hmem : a ∈ d.collapsedSliceDims := by
    show a ∈ ([0, 1] : List (Fin 2))
    revert a; decide
  rw [GatherDims.batchCoord_eq_zero _ _ _ (show a ∉ ([] : List (Fin 2)) from List.not_mem_nil),
    GatherDims.offCoord_eq_zero _ _ _ (fun h => ((GatherDims.mem_sKept _ _).mp h).1 hmem)]
  simp only [Nat.add_zero]
  unfold GatherDims.start
  match a with
  | ⟨0, h0⟩ =>
    rw [dif_pos (show (⟨0, h0⟩ : Fin 2) ∈ d.startIndexMap from List.mem_cons_self)]
    rw [show d.siIdx (ix1 r) ⟨List.idxOf (⟨0, h0⟩ : Fin 2) d.startIndexMap, List.idxOf_lt_length_iff.2 List.mem_cons_self⟩ = ix2 r (0 : Fin 2) from
      funext fun b => Fin.ext (by
        match b with
        | ⟨0, _⟩ => rfl
        | ⟨1, _⟩ => rfl), pair_row, StableHlo.Predicate.toInt_ofNat_small _ (by omega)]
    show min (r.val : ℤ).toNat (512 - 1) = r.val
    omega
  | ⟨1, h1⟩ =>
    have h1m : (⟨1, h1⟩ : Fin 2) ∈ d.startIndexMap := List.mem_cons_of_mem _ List.mem_cons_self
    rw [dif_pos h1m]
    rw [show d.siIdx (ix1 r) ⟨List.idxOf (⟨1, h1⟩ : Fin 2) d.startIndexMap, List.idxOf_lt_length_iff.2 h1m⟩ = ix2 r (1 : Fin 2) from
      funext fun b => Fin.ext (by
        match b with
        | ⟨0, _⟩ => rfl
        | ⟨1, _⟩ => rfl), pair_label lab r hl, StableHlo.Predicate.toInt_eq_toNat_of_lt (by omega)]
    show min ((lab (ix1 r)).toNat : ℤ).toNat (32768 - 1) = (lab (ix1 r)).toNat
    omega

/-- The reference's result at row `r`: the row's loss at its label. -/
theorem ref_apply (hx : ∀ i, ∃ a : ℝ, x i = (a : EReal)) (hW : ∀ i, ∃ a : ℝ, W i = (a : EReal)) (r : Fin 512)
    (hl : (lab (ix1 r)).toNat < 32768) :
    val_main_v26 (F := Ideal) x W lab (ix1 r) = loss (fun v => logit x W r v) ⟨(lab (ix1 r)).toNat, hl⟩ := by
  rw [val_main_v26_apply, lse_apply x W hx hW, gather_apply x W lab r hl, Ideal.subf_def]
  rfl

end Cert.RefValue

end
-- ==== Proof.KernelPay.lean ====
/-
The kernel's arithmetic at the ideal instance, read at an index: one chunk's summed exponentials and its share of the
label logit, the running sums, and the final combination.
-/
module

public import proofs.«01_k».proof.Proof.Protocol
public import proofs.«01_k».proof.Proof.Spec
public import Idealize.ShloMosaic.Lib.StableHlo.Predicate
public import Idealize.ShloMosaic.Lib.Pipeline.Value

@[expose] public section

noncomputable section

namespace Cert.KernelValue

open Cert.KernelIdeal Cert.KernelIdeal.Gen Cert.KernelIdealRun Cert.Spec
open Idealize.ShloMosaic Idealize.ShloMosaic.ValueIdx

/-! ## The matrix product -/

abbrev dD := dot_S512x1024_S1024x2048_S512x2048_1_0_0_1_n_n

theorem lhs_0 (i : S512x2048.Idx) (q : dD.contr.Idx) : (dD.lhsIdx i q 0).val = (i 0).val := by
  unfold DotDims.lhsIdx
  rw [dif_neg (show ¬(0 : Fin S512x1024.rank) ∈ dD.lhsBatch by decide), dif_pos (show (0 : Fin S512x1024.rank) ∈ dD.lhsNonContracting by decide)]
  rfl
theorem rhs_1 (i : S512x2048.Idx) (q : dD.contr.Idx) : (dD.rhsIdx i q 1).val = (i 1).val := by
  unfold DotDims.rhsIdx
  rw [dif_neg (show ¬(1 : Fin S1024x2048.rank) ∈ dD.rhsBatch by decide), dif_pos (show (1 : Fin S1024x2048.rank) ∈ dD.rhsNonContracting by decide)]
  rfl

/-- Entry (r, j) of a chunk's logits. -/
theorem pay4_apply (x : Vec Ideal S512x1024 .bf16) (w : Vec Ideal S1024x2048 .bf16) (r : Fin 512) (j : Fin 2048) :
    k0_pay4 (F := Ideal) x w (ix2 r j) = ∑ k : Fin 1024, (x (ix2 r k) : EReal) * (w (ix2 k j) : EReal) := by
  unfold k0_pay4
  simp only [shapeCast_self]
  rw [matmul, Ideal.matmul_constant_zero_apply, ← Equiv.sum_comp (contrEquiv1 dD 1024 rfl rfl).symm]
  refine Finset.sum_congr rfl fun k _ => ?_
  have hk := contrEquiv1_symm_val dD 1024 rfl rfl k
  rw [show dD.lhsIdx (ix2 r j) ((contrEquiv1 dD 1024 rfl rfl).symm k) = ix2 r k from funext fun a => Fin.ext (by
      match a with
      | ⟨0, _⟩ => exact lhs_0 _ _
      | ⟨1, _⟩ => exact (dD.lhsIdx_val_of_single rfl _ _).trans hk),
    show dD.rhsIdx (ix2 r j) ((contrEquiv1 dD 1024 rfl rfl).symm k) = ix2 k j from funext fun a => Fin.ext (by
      match a with
      | ⟨0, _⟩ => exact (dD.rhsIdx_val_of_single rfl _ _).trans hk
      | ⟨1, _⟩ => exact rhs_1 _ _)]

/-! ## One chunk's sums -/

/-- A sum along a chunk's columns. -/
theorem sum_cols (v : FVec Ideal S512x2048 .f32) (r : Fin 512) :
    multiReduction .add [1] S512 v 0x00000000#32 reduces_S512x2048_S512 (.inl rfl) rfl (ix1 r) = ∑ j : Fin 2048, v (ix2 r j) := by
  refine (Ideal.multiReduction_add_single v _ _ _ _ (ix1 r)).trans ?_
  refine Finset.sum_congr rfl fun j _ => congrArg v (funext fun a => ?_)
  match a with
  | ⟨0, _⟩ => rfl
  | ⟨1, _⟩ => rfl

/-- Row `r`'s exponentials, summed over the chunk. -/
theorem pay5_apply (x : Vec Ideal S512x1024 .bf16) (w : Vec Ideal S1024x2048 .bf16) (r : Fin 512) :
    k0_pay5 (F := Ideal) x w (ix1 r) = ∑ j : Fin 2048, Ideal.exp (k0_pay4 (F := Ideal) x w (ix2 r j)) := by
  unfold k0_pay5
  rw [sum_cols]
  rfl

/-- The device's number as the kernel computes it. -/
theorem dev_word (c : Dev nD) : Scalar.remsi (Scalar.divsi (Dev.word c) 1#32) 4#32 = BitVec.ofNat 32 c.val := by
  revert c; decide

/-- The kernel's test of a column against a label, in 32-bit words: it asks whether the column is the label's. -/
theorem label_test (c : Dev nD) (t : Fin 4) (j : Fin 2048) (l : BitVec 32) :
    (IntOp.cmpi .eq (BitVec.ofNat 32 j.val) (IntOp.subi (IntOp.subi l (Scalar.muli (BitVec.ofNat 32 c.val) 8192#32))
      (Scalar.muli (BitVec.ofNat 32 t.val) 2048#32)) = 1#1) ↔ (col c t j).val = l.toNat := by
  have hc : c.val < 4 := c.isLt
  have ht := t.isLt
  have hj := j.isLt
  have hl := l.isLt
  rw [StableHlo.Predicate.cmpi_eq_iff]
  show BitVec.ofNat 32 j.val = l - BitVec.ofNat 32 c.val * 8192#32 - BitVec.ofNat 32 t.val * 2048#32 ↔ 8192 * c.val + 2048 * t.val + j.val = l.toNat
  rw [← BitVec.toNat_inj]
  simp only [BitVec.toNat_sub, BitVec.toNat_mul, BitVec.toNat_ofNat]
  omega

/-- Row `r`'s logits, summed over the chunk's columns that are the label's. -/
theorem pay6_apply (i : grid0.Coords) (t : Fin 4) (hi : (i 0).val = t.val) (c : Dev nD) (x : Vec Ideal S512x1024 .bf16)
    (w : Vec Ideal S1024x2048 .bf16) (lab : Vec Ideal S512 .i32) (r : Fin 512) :
    k0_pay6 (F := Ideal) i c x w lab (ix1 r)
      = ∑ j : Fin 2048, if (col c t j).val = (lab (ix1 r)).toNat then k0_pay4 (F := Ideal) x w (ix2 r j) else (0 : EReal) := by
  unfold k0_pay6
  rw [sum_cols]
  refine Finset.sum_congr rfl fun j _ => ?_
  simp only [shapeCast_self]
  rw [select_apply, broadcast_apply]
  have hcond : cmpi .eq (iota .tc S512x2048 32 [1] iota_S512x2048_d1_w32) (broadcastTo S512x2048 (shapeCast S512x1
      (subi (subi lab (broadcast S512 (Scalar.muli (Scalar.remsi (Scalar.divsi (Dev.word c) 1#32) 4#32) 8192#32)))
        (broadcast S512 (Scalar.muli (BitVec.ofNat 32 (i 0).val) 2048#32))) shapeCasts_S512_S512x1) broadcasts_S512x1_S512x2048) (ix2 r j)
      = IntOp.cmpi .eq (BitVec.ofNat 32 j.val) (IntOp.subi (IntOp.subi (lab (ix1 r)) (Scalar.muli (BitVec.ofNat 32 c.val) 8192#32))
        (Scalar.muli (BitVec.ofNat 32 t.val) 2048#32)) := by
    show IntOp.cmpi .eq (iota .tc S512x2048 32 [1] iota_S512x2048_d1_w32 (ix2 r j)) (broadcastTo S512x2048 _ _ (ix2 r j)) = _
    rw [iota_single_apply, broadcastTo_apply _ _ (ix2 r j) (ix2 r (0 : Fin 1)) (fun a => by
        match a with
        | ⟨0, _⟩ => rfl
        | ⟨1, _⟩ => rfl),
      shapeCast_apply _ _ (ix2 r (0 : Fin 1)) (ix1 r) (by
        rw [Shape.rowMajor_val_two, Shape.rowMajor_val_one]; show r.val = r.val * 1 + 0; omega), dev_word, hi]
    rfl
  rw [hcond]
  by_cases h : (col c t j).val = (lab (ix1 r)).toNat
  · rw [(label_test c t j _).2 h, if_pos h, select_one]
  · rw [eq_zero_of_ne_one fun h' => h ((label_test c t j _).1 h'), if_neg h, select_zero]
    exact Ideal.ofBits_zero_f32

/-! ## The running sums and the combination -/

theorem cast_row (v : FVec Ideal S512 .f32) (r : Fin 512) :
    shapeCast S1x512 v shapeCasts_S512_S1x512 (ix2 (0 : Fin 1) r) = v (ix1 r) :=
  shapeCast_apply _ _ _ (ix1 r) (by rw [Shape.rowMajor_val_two, Shape.rowMajor_val_one]; show r.val = 0 * 512 + r.val; omega)
theorem cast_vec (v : Vec Ideal S1x512 .f32) (r : Fin 512) :
    shapeCast S512 v shapeCasts_S1x512_S512 (ix1 r) = v (ix2 (0 : Fin 1) r) :=
  shapeCast_apply _ _ _ (ix2 (0 : Fin 1) r) (by rw [Shape.rowMajor_val_two, Shape.rowMajor_val_one]; show 0 * 512 + r.val = r.val; omega)
theorem cast_lift (v : Vec Ideal S1x512 .f32) (r : Fin 512) :
    shapeCast S512 (lift3 (F := Ideal) v) shapeCasts_S1x1x512_S512 (ix1 r) = v (ix2 (0 : Fin 1) r) :=
  (shapeCast_apply _ _ _ (ix3 (0 : Fin 1) (0 : Fin 1) r) (by
    rw [Shape.rowMajor_val_three, Shape.rowMajor_val_one]; show (0 * 1 + 0) * 512 + r.val = r.val; omega)).trans rfl

theorem pay7_apply (x : Vec Ideal S512x1024 .bf16) (w : Vec Ideal S1024x2048 .bf16) (r : Fin 512) :
    k0_pay7 (F := Ideal) x w (ix2 (0 : Fin 1) r) = k0_pay5 (F := Ideal) x w (ix1 r) := by
  unfold k0_pay7
  exact cast_row _ r
theorem pay8_apply (i : grid0.Coords) (c : Dev nD) (x : Vec Ideal S512x1024 .bf16) (w : Vec Ideal S1024x2048 .bf16)
    (lab : Vec Ideal S512 .i32) (r : Fin 512) :
    k0_pay8 (F := Ideal) i c x w lab (ix2 (0 : Fin 1) r) = k0_pay6 (F := Ideal) i c x w lab (ix1 r) := by
  unfold k0_pay8
  exact cast_row _ r
theorem pay9_apply (x : Vec Ideal S512x1024 .bf16) (w : Vec Ideal S1024x2048 .bf16) (v : Vec Ideal S1x512 .f32) (r : Fin 512) :
    k0_pay9 (F := Ideal) x w v (ix2 (0 : Fin 1) r) = (v (ix2 (0 : Fin 1) r) + k0_pay5 (F := Ideal) x w (ix1 r) : EReal) := by
  unfold k0_pay9
  rw [cast_row, addf_apply, cast_vec]
theorem pay10_apply (i : grid0.Coords) (c : Dev nD) (x : Vec Ideal S512x1024 .bf16) (w : Vec Ideal S1024x2048 .bf16)
    (lab : Vec Ideal S512 .i32) (v : Vec Ideal S1x512 .f32) (r : Fin 512) :
    k0_pay10 (F := Ideal) i c x w lab v (ix2 (0 : Fin 1) r)
      = (v (ix2 (0 : Fin 1) r) + k0_pay6 (F := Ideal) i c x w lab (ix1 r) : EReal) := by
  unfold k0_pay10
  rw [cast_row, addf_apply, cast_vec]

/-- The kernel's result from the four devices' sums. -/
theorem comb_apply (L0 L1 L2 L3 S0 S1 S2 S3 : Vec Ideal S1x512 .f32) (r : Fin 512) :
    k0_pay1 (F := Ideal) (k0_pay2 (F := Ideal) L0 (lift3 (F := Ideal) L1) (lift3 (F := Ideal) L2))
      (k0_pay3 (F := Ideal) S0 (lift3 (F := Ideal) S1) (lift3 (F := Ideal) S2) (lift3 (F := Ideal) S3)) (lift3 (F := Ideal) L3) (ix1 r)
      = Ideal.log (S0 (ix2 (0 : Fin 1) r) + S1 (ix2 (0 : Fin 1) r) + S2 (ix2 (0 : Fin 1) r) + S3 (ix2 (0 : Fin 1) r))
        - (L0 (ix2 (0 : Fin 1) r) + L1 (ix2 (0 : Fin 1) r) + L2 (ix2 (0 : Fin 1) r) + L3 (ix2 (0 : Fin 1) r)) := by
  have hS : k0_pay3 (F := Ideal) S0 (lift3 (F := Ideal) S1) (lift3 (F := Ideal) S2) (lift3 (F := Ideal) S3) (ix1 r)
      = (S0 (ix2 (0 : Fin 1) r) + S1 (ix2 (0 : Fin 1) r) + S2 (ix2 (0 : Fin 1) r) + S3 (ix2 (0 : Fin 1) r) : EReal) := by
    unfold k0_pay3
    rw [addf_apply, addf_apply, addf_apply, cast_lift, cast_lift, cast_lift, cast_vec]
  have hL : k0_pay2 (F := Ideal) L0 (lift3 (F := Ideal) L1) (lift3 (F := Ideal) L2) (ix1 r)
      = (L0 (ix2 (0 : Fin 1) r) + L1 (ix2 (0 : Fin 1) r) + L2 (ix2 (0 : Fin 1) r) : EReal) := by
    unfold k0_pay2
    rw [addf_apply, addf_apply, cast_lift, cast_lift, cast_vec]
  unfold k0_pay1
  rw [subf_apply, addf_apply, hL, cast_lift, ← hS]
  rfl

end Cert.KernelValue

end
-- ==== Proof.KernelValue.lean ====
/-
What the kernel computes: where the devices' parts of `W` are the blocks of one array and the labels are column numbers,
entry `r` of every device's result is the loss of row `r` of the logits at the row's label.
-/
module

public import proofs.«01_k».proof.Proof.KernelPay
public import proofs.«01_k».proof.Proof.Launch
public import Idealize.ShloMosaic.Lib.Layout
public import Idealize.ShloMosaic.Lib.Pipeline.ValueKit.Geometry

@[expose] public section

noncomputable section

namespace Cert.KernelValue

open Cert.KernelIdeal Cert.KernelIdeal.Gen Cert.KernelIdealRun Cert.Spec
open Idealize.ShloMosaic Idealize.ShloMosaic.ValueIdx Idealize.ShloMosaic.TcCoe
open Idealize.SL.Sem

variable (m : (ℓ : Loc nD τ sig) → Buf (Elt Ideal) ℓ) (ρ : Dev nD → PrngReg)

/-! ## The blocks a grid point reads -/

/-- Grid point `t`'s coordinate. -/
theorem coords_tt (t : Fin 4) : (grid0.coords (tt t.val) 0).val = t.val := by revert t; decide

theorem index_x (t : Fin 4) : ∀ a, win0_0.index (tt t.val) a = 0 := by revert t; decide +kernel
theorem index_w (t : Fin 4) : win0_1.index (tt t.val) 0 = 0 ∧ win0_1.index (tt t.val) 1 = t.val := by revert t; decide +kernel
theorem index_lab (t : Fin 4) : ∀ a, win0_2.index (tt t.val) a = 0 := by revert t; decide +kernel

theorem index_out (t : Fin cfg0.N) : ∀ a, win0_3.index t a = 0 := by revert t; decide +kernel

theorem xb_apply (c : Dev nD) (t : Fin 4) (r : Fin 512) (k : Fin 1024) :
    xb m c (tt t.val) (ix2 r k) = m ((c : Thread nD τ).loc main_arg0) (ix2 r k) := by
  show m ((c : Thread nD τ).loc main_arg0) ((win0_0.rect (tt t.val)).emb (ix2 r k)) = _
  refine congrArg (m ((c : Thread nD τ).loc main_arg0)) (funext fun a => Fin.ext ?_)
  rw [Pipeline.Window.rect_emb_val_of_index_zero win0_0 (tt t.val) a (index_x t a) (ix2 r k)]

theorem wb_apply (c : Dev nD) (t : Fin 4) (k : Fin 1024) (j : Fin 2048) :
    wb m c (tt t.val) (ix2 k j) = m ((c : Thread nD τ).loc main_arg1) (ix2 k (⟨2048 * t.val + j.val, by omega⟩ : Fin 8192)) := by
  show m ((c : Thread nD τ).loc main_arg1) ((win0_1.rect (tt t.val)).emb (ix2 k j)) = _
  refine congrArg (m ((c : Thread nD τ).loc main_arg1)) (funext fun a => Fin.ext ?_)
  rw [Pipeline.Window.rect_emb_val win0_1 (tt t.val) (ix2 k j) a]
  match a with
  | ⟨0, _⟩ =>
    rw [show win0_1.index (tt t.val) ⟨0, _⟩ = 0 from (index_w t).1]
    show 0 * 1024 + k.val = k.val
    omega
  | ⟨1, _⟩ =>
    rw [show win0_1.index (tt t.val) ⟨1, _⟩ = t.val from (index_w t).2]
    show t.val * 2048 + j.val = 2048 * t.val + j.val
    omega

theorem lb_apply (c : Dev nD) (t : Fin 4) (r : Fin 512) :
    lb m c (tt t.val) (ix1 r) = m ((c : Thread nD τ).loc main_arg2) (ix1 r) := by
  show m ((c : Thread nD τ).loc main_arg2) ((win0_2.rect (tt t.val)).emb (ix1 r)) = _
  refine congrArg (m ((c : Thread nD τ).loc main_arg2)) (funext fun a => Fin.ext ?_)
  rw [Pipeline.Window.rect_emb_val_of_index_zero win0_2 (tt t.val) a (index_lab t a) (ix1 r)]

/-! ## The sums -/

section
variable (x : (⟨2, ![512, 1024]⟩ : Shape).Idx → EReal) (W : (⟨2, ![1024, 32768]⟩ : Shape).Idx → EReal)
  (lab : (⟨1, ![512]⟩ : Shape).Idx → BitVec 32)

/-- The devices' arguments are `x`, their blocks of `W`, and `lab`. -/
def Args : Prop := ∀ c : Dev nD,
  (∀ r k, m ((c : Thread nD τ).loc main_arg0) (ix2 r k) = x (ix2 r k))
  ∧ (∀ (k : Fin 1024) (v : Fin 8192), m ((c : Thread nD τ).loc main_arg1) (ix2 k v) = W (ix2 k (⟨8192 * c.val + v.val, by have : c.val < 4 := c.isLt; omega⟩ : Fin 32768)))
  ∧ ∀ r, m ((c : Thread nD τ).loc main_arg2) (ix1 r) = lab (ix1 r)

variable {m x W lab}
variable (h : Args m x W lab)
include h

/-- A chunk's logits are the logits of its columns. -/
theorem chunk_logit (c : Dev nD) (t : Fin 4) (r : Fin 512) (j : Fin 2048) :
    k0_pay4 (F := Ideal) (xb m c (tt t.val)) (wb m c (tt t.val)) (ix2 r j) = logit x W r (col c t j) := by
  rw [pay4_apply]
  refine Finset.sum_congr rfl fun k _ => ?_
  rw [xb_apply, wb_apply, (h c).1, (h c).2.1]
  refine congrArg (fun v => x (ix2 r k) * W (ix2 k v)) (Fin.ext ?_)
  show 8192 * c.val + (2048 * t.val + j.val) = 8192 * c.val + 2048 * t.val + j.val
  omega

theorem chunk_exp (c : Dev nD) (t : Fin 4) (r : Fin 512) :
    k0_pay5 (F := Ideal) (xb m c (tt t.val)) (wb m c (tt t.val)) (ix1 r) = ∑ j, Ideal.exp (logit x W r (col c t j)) := by
  rw [pay5_apply]
  exact Finset.sum_congr rfl fun j _ => by rw [chunk_logit h]

theorem chunk_label (c : Dev nD) (t : Fin 4) (r : Fin 512) :
    k0_pay6 (F := Ideal) (grid0.coords (tt t.val)) c (xb m c (tt t.val)) (wb m c (tt t.val)) (lb m c (tt t.val)) (ix1 r)
      = ∑ j, if (col c t j).val = (lab (ix1 r)).toNat then logit x W r (col c t j) else 0 := by
  rw [pay6_apply _ t (coords_tt t)]
  exact Finset.sum_congr rfl fun j _ => by rw [chunk_logit h, lb_apply, (h c).2.2]

/-- Row 0 of a device's statistics: its columns' exponentials, summed. -/
theorem accS_apply (c : Dev nD) (r : Fin 512) :
    accS m c 3 (ix2 (0 : Fin 1) r) = ∑ t, ∑ j, Ideal.exp (logit x W r (col c t j)) := by
  unfold accS accS accS accS
  rw [pay9_apply, pay9_apply, pay9_apply, pay7_apply, Fin.sum_univ_four]
  exact congrArg₂ (· + ·) (congrArg₂ (· + ·) (congrArg₂ (· + ·) (chunk_exp h c 0 r) (chunk_exp h c 1 r)) (chunk_exp h c 2 r)) (chunk_exp h c 3 r)

/-- Row 1: its columns' logits, summed over those that are the label's. -/
theorem accL_apply (c : Dev nD) (r : Fin 512) :
    accL m c 3 (ix2 (0 : Fin 1) r) = ∑ t, ∑ j, if (col c t j).val = (lab (ix1 r)).toNat then logit x W r (col c t j) else 0 := by
  unfold accL accL accL accL
  rw [pay10_apply, pay10_apply, pay10_apply, pay8_apply, Fin.sum_univ_four]
  exact congrArg₂ (· + ·) (congrArg₂ (· + ·) (congrArg₂ (· + ·) (chunk_label h c 0 r) (chunk_label h c 1 r)) (chunk_label h c 2 r)) (chunk_label h c 3 r)

omit h in
/-- A device and the three that send to it are all four devices. -/
theorem sum_around (f : Fin 4 → EReal) (c : Dev nD) : f c + f (src 0 c) + f (src 1 c) + f (src 2 c) = ∑ d, f d := by
  rw [Fin.sum_univ_four]
  match c with
  | ⟨0, _⟩ =>
    show f 0 + f (src 0 0) + f (src 1 0) + f (src 2 0) = _
    rw [show src 0 0 = 3 by decide, show src 1 0 = 2 by decide, show src 2 0 = 1 by decide]
    show f (Fin.ofNat 4 0) + f (Fin.ofNat 4 3) + f (Fin.ofNat 4 2) + f (Fin.ofNat 4 1)
      = f (Fin.ofNat 4 0) + f (Fin.ofNat 4 1) + f (Fin.ofNat 4 2) + f (Fin.ofNat 4 3)
    ac_rfl
  | ⟨1, _⟩ =>
    show f 1 + f (src 0 1) + f (src 1 1) + f (src 2 1) = _
    rw [show src 0 1 = 0 by decide, show src 1 1 = 3 by decide, show src 2 1 = 2 by decide]
    show f (Fin.ofNat 4 1) + f (Fin.ofNat 4 0) + f (Fin.ofNat 4 3) + f (Fin.ofNat 4 2)
      = f (Fin.ofNat 4 0) + f (Fin.ofNat 4 1) + f (Fin.ofNat 4 2) + f (Fin.ofNat 4 3)
    ac_rfl
  | ⟨2, _⟩ =>
    show f 2 + f (src 0 2) + f (src 1 2) + f (src 2 2) = _
    rw [show src 0 2 = 1 by decide, show src 1 2 = 0 by decide, show src 2 2 = 3 by decide]
    show f (Fin.ofNat 4 2) + f (Fin.ofNat 4 1) + f (Fin.ofNat 4 0) + f (Fin.ofNat 4 3)
      = f (Fin.ofNat 4 0) + f (Fin.ofNat 4 1) + f (Fin.ofNat 4 2) + f (Fin.ofNat 4 3)
    ac_rfl
  | ⟨3, _⟩ =>
    show f 3 + f (src 0 3) + f (src 1 3) + f (src 2 3) = _
    rw [show src 0 3 = 2 by decide, show src 1 3 = 1 by decide, show src 2 3 = 0 by decide]
    show f (Fin.ofNat 4 3) + f (Fin.ofNat 4 2) + f (Fin.ofNat 4 1) + f (Fin.ofNat 4 0)
      = f (Fin.ofNat 4 0) + f (Fin.ofNat 4 1) + f (Fin.ofNat 4 2) + f (Fin.ofNat 4 3)
    ac_rfl

/-- The kernel's result at row `r`: the row's loss at its label. -/
theorem out_apply (c : Dev nD) (r : Fin 512) (hl : (lab (ix1 r)).toNat < 32768) :
    outAt m c (ix1 r) = loss (fun v => logit x W r v) ⟨(lab (ix1 r)).toNat, hl⟩ := by
  unfold outAt
  rw [comb_apply]
  simp only [accS_apply h, accL_apply h]
  rw [sum_around (fun d => ∑ t, ∑ j, Ideal.exp (logit x W r (col d t j))) c,
    sum_around (fun d => ∑ t, ∑ j, if (col d t j).val = (lab (ix1 r)).toNat then logit x W r (col d t j) else 0) c,
    sum_col (fun v => Ideal.exp (logit x W r v)), sum_col (fun v => if v.val = (lab (ix1 r)).toNat then logit x W r v else 0)]
  refine congrArg (Ideal.log (∑ v, Ideal.exp (logit x W r v)) - ·) (Eq.trans ?_ (sum_pick (fun v => logit x W r v) ⟨(lab (ix1 r)).toNat, hl⟩))
  simp only [Fin.ext_iff]
end

/-! ## The result array -/

/-- The result array ends holding the last grid point's block. -/
theorem final_out (c : Dev nD) : finalA m ρ c (3 : Fin 4) = outAt m c := by
  unfold finalA
  refine (dats (F := Ideal) m ρ 0 c).arrAt_eq_of_covers (3 : Fin 4) (outAt m c) (by decide +kernel) (fun t _ y => ?_)
  show outAt m c y = outAt m c ((win0_3.rect t).emb y)
  refine congrArg (outAt m c) (funext fun a => Fin.ext ?_)
  rw [Pipeline.Window.rect_emb_val_of_index_zero win0_3 t a (index_out t a) y]

end Cert.KernelValue

end
-- ==== Proof.Algebraic.lean ====
/-
The kernel and the reference compute the same: from arguments placed as the claim says and meeting the precondition,
every device's result and the reference's result are the same array.
-/
module

public import proofs.«01_k».proof.Defs
public import proofs.«01_k».proof.Proof.Gen.Pre_in_range_KernelIdeal
public import proofs.«01_k».proof.Proof.Gen.Pre_in_range_ReferenceIdeal
public import proofs.«01_k».proof.Proof.Frames
public import proofs.«01_k».proof.Proof.PreValue
public import proofs.«01_k».proof.Proof.RefValue
public import proofs.«01_k».proof.Proof.KernelValue

@[expose] public section

noncomputable section

namespace Cert.Proof

open Idealize.ShloMosaic Idealize.ShloMosaic.ValueIdx Idealize.ShloMosaic.TcCoe
open Idealize.SL.Sem
open Cert.KernelIdealRun Cert.KernelValue Cert.RefValue Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's three arguments. -/
abbrev xR : (⟨Cert.ReferenceIdeal.S512x1024, .bf16⟩ : BufTy).Contents (Elt Ideal) :=
  m' (((0 : Dev Cert.ReferenceIdeal.nD).tc : Thread Cert.ReferenceIdeal.nD Cert.ReferenceIdeal.τ).loc Cert.ReferenceIdeal.main_arg0)
abbrev wR : (⟨Cert.ReferenceIdeal.S1024x32768, .bf16⟩ : BufTy).Contents (Elt Ideal) :=
  m' (((0 : Dev Cert.ReferenceIdeal.nD).tc : Thread Cert.ReferenceIdeal.nD Cert.ReferenceIdeal.τ).loc Cert.ReferenceIdeal.main_arg1)
abbrev labR : (⟨Cert.ReferenceIdeal.S512, .i32⟩ : BufTy).Contents (Elt Ideal) :=
  m' (((0 : Dev Cert.ReferenceIdeal.nD).tc : Thread Cert.ReferenceIdeal.nD Cert.ReferenceIdeal.τ).loc Cert.ReferenceIdeal.main_arg2)

/-- The devices' arguments are the reference's, `W` cut into four blocks of columns. -/
def Placed : Prop := ∀ c : Dev Cert.KernelIdeal.nD,
  m ((c.tc : Thread Cert.KernelIdeal.nD Cert.KernelIdeal.τ).loc Cert.KernelIdeal.main_arg0) = xR m'
  ∧ m ((c.tc : Thread Cert.KernelIdeal.nD Cert.KernelIdeal.τ).loc Cert.KernelIdeal.main_arg1)
      = Layout.block ⟨2, ![1024, 8192]⟩ ⟨2, ![1024, 32768]⟩ 1 4 c (wR m')
  ∧ m ((c.tc : Thread Cert.KernelIdeal.nD Cert.KernelIdeal.τ).loc Cert.KernelIdeal.main_arg2) = labR m'

variable {m m'}

theorem args_of_placed (hp : Placed m m') : Args m (xR m') (wR m') (labR m') := fun c => by
  obtain ⟨h0, h1, h2⟩ := hp c
  refine ⟨fun r k => congrFun h0 _, fun k v => (congrFun h1 _).trans ?_, fun r => congrFun h2 _⟩
  rw [Layout.block_apply]
  refine congrArg (wR m') (funext fun a => Fin.ext ?_)
  rw [Layout.Tiles.idx_val]
  match a with
  | ⟨0, _⟩ => rfl
  | ⟨1, _⟩ =>
    show c.val * 8192 + v.val = 8192 * c.val + v.val
    omega

/-- What the precondition on the devices' arguments says of the reference's. -/
theorem finite_of_pre (hpre : Cert.Pre_KernelIdeal_in_range_KernelIdeal m) (hp : Placed m m') :
    (∀ i, ∃ a : ℝ, xR m' i = (a : EReal)) ∧ (∀ i, ∃ a : ℝ, wR m' i = (a : EReal)) ∧ ∀ i, (labR m' i).toNat < 32768 := by
  refine ⟨?_, fun i => ?_, ?_⟩
  · have h := (Cert.PreValue.of_pre _ _ _ (hpre 0)).1
    rwa [(hp 0).1] at h
  · have hv : (i 1).val < 32768 := idx2_lt1 i
    let c : Dev Cert.KernelIdeal.nD := ⟨(i 1).val / 8192, by show _ < 4; omega⟩
    obtain ⟨a, ha⟩ := (Cert.PreValue.of_pre _ _ _ (hpre c)).2.1 (ix2 (i 0) (⟨(i 1).val % 8192, by omega⟩ : Fin 8192))
    refine ⟨a, Eq.trans ?_ ha⟩
    refine Eq.trans ?_ ((args_of_placed hp c).2.1 (i 0) ⟨(i 1).val % 8192, by omega⟩).symm
    refine congrArg (wR m') (funext fun b => Fin.ext ?_)
    match b with
    | ⟨0, _⟩ => rfl
    | ⟨1, _⟩ =>
      show (i 1).val = 8192 * ((i 1).val / 8192) + (i 1).val % 8192
      omega
  · have h := (Cert.PreValue.of_pre _ _ _ (hpre 0)).2.2
    rwa [(hp 0).2.2] at h

/-- Every device's result is the reference's. -/
theorem out_eq (hpre : Cert.Pre_KernelIdeal_in_range_KernelIdeal m) (hp : Placed m m') (c : Dev Cert.KernelIdeal.nD) :
    outAt m c = Cert.ReferenceIdeal.Read.val_main_v26 (F := Ideal) (xR m') (wR m') (labR m') := by
  obtain ⟨hx, hW, hl⟩ := finite_of_pre hpre hp
  funext i
  rw [eq_ix1 i]
  exact (out_apply (args_of_placed hp) c _ (hl _)).trans (ref_apply _ _ _ hx hW _ (hl _)).symm

/-- The algebraic claim. -/
theorem algebraic : Cert.algebraic_KernelIdeal_ReferenceIdeal_pre_in_range_KernelIdeal := by
  intro m g m' g' hpre hp
  refine ⟨Cert.ReferenceIdeal.Read.val_main_v26 (F := Ideal) (xR m') (wR m') (labR m'), ?_, ?_⟩
  · exact (θ_run _ _ _).mono (fun r h c =>
      ⟨((h.1 c 3).trans (final_out m g c)).trans (out_eq hpre hp c), (h.1 c 0).trans (finalA_x m g c),
        (h.1 c 1).trans (finalA_w m g c), (h.1 c 2).trans (finalA_lab m g c)⟩) (run_main m g)
  · exact (θ_run _ _ _).mono (fun r h => ⟨((h 0).1).trans (Cert.ReferenceIdeal.Read.val_main_v26_eq _ _ _), (h 0).2⟩)
      (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import proofs.«01_k».proof.Proof.Gen.Pre_in_range_KernelIdeal
public import proofs.«01_k».proof.Proof.Gen.Pre_in_range_ReferenceIdeal
public import Idealize.ShloMosaic.Adequacy
public import Idealize.ShloMosaic.Init

@[expose] public section

noncomputable section

namespace Cert.Proof

open Idealize.ShloMosaic Idealize.SL.Sem Cert.Kernel

/-- The frames, the idealization and the equality of the kernel and the reference at exact arithmetic. A frame under a
    precondition is the frame without it. -/
theorem claim : Cert.Claim := ⟨Cert.Kernel.Gen.facts, Cert.KernelIdeal.Gen.facts, Cert.ReferenceIdeal.Gen.facts, Cert.Pre_in_range_KernelIdeal.Gen.facts, Cert.Pre_in_range_ReferenceIdeal.Gen.facts,
  frame_Kernel, frame_KernelIdeal, fun m g _ => frame_KernelIdeal m g trivial, frame_ReferenceIdeal,
  fun m g _ => frame_ReferenceIdeal m g trivial, trivial, algebraic⟩

end Cert.Proof

end
